-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x4096 : Shape := ⟨2, ![32768, 4096]⟩
abbrev S4x4096x64 : Shape := ⟨3, ![4, 4096, 64]⟩
abbrev S4x64 : Shape := ⟨2, ![4, 64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_

variable [Facts]

def fn {F : FTy → Type} [FloatOps F] (main_arg0 : FVec F S32768x4096 .f32) (main_arg1 : FVec F S4x4096x64 .f32) (main_arg2 : FVec F S4x64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  main_v8
-- ==== Kernel.lean ====
abbrev S32768x4096 : Shape := ⟨2, ![32768, 4096]⟩
abbrev S4x4096x64 : Shape := ⟨3, ![4, 4096, 64]⟩
abbrev S4x64 : Shape := ⟨2, ![4, 64]⟩
abbrev S32768x64 : Shape := ⟨2, ![32768, 64]⟩
abbrev S4096x64 : Shape := ⟨2, ![4096, 64]⟩
abbrev S8x64 : Shape := ⟨2, ![8, 64]⟩
abbrev S_ : Shape := ⟨0, ![]⟩
abbrev S1x4096x64 : Shape := ⟨3, ![1, 4096, 64]⟩
abbrev S1x64 : Shape := ⟨2, ![1, 64]⟩
abbrev S64 : Shape := ⟨1, ![64]⟩
abbrev S2x1024x4096 : Shape := ⟨3, ![2, 1024, 4096]⟩
abbrev S2 : Shape := ⟨1, ![2]⟩
abbrev S2x1024x64 : Shape := ⟨3, ![2, 1024, 64]⟩
abbrev S1 : Shape := ⟨1, ![1]⟩
abbrev S1x1024x4096 : Shape := ⟨3, ![1, 1024, 4096]⟩
abbrev S1024x4096 : Shape := ⟨2, ![1024, 4096]⟩
abbrev S1024x64 : Shape := ⟨2, ![1024, 64]⟩
abbrev S1x1024x64 : Shape := ⟨3, ![1, 1024, 64]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S4x4096x64, .f32⟩
  | .hbm, ⟨2, _⟩ => ⟨S4x64, .f32⟩
  | .hbm, ⟨3, _⟩ => ⟨S32768x64, .f32⟩
  | .local _ .vmem, ⟨0, _⟩ => ⟨S4x4096x64, .f32⟩
  | .local _ .vmem, ⟨1, _⟩ => ⟨S4x64, .f32⟩
  | .local _ .vmem, ⟨2, _⟩ => ⟨S4096x64, .f32⟩
  | .local _ .vmem, ⟨3, _⟩ => ⟨S8x64, .f32⟩
  | .local _ .vmem, ⟨4, _⟩ => ⟨S2x1024x4096, .f32⟩
  | .local _ .vmem, ⟨5, _⟩ => ⟨S2x1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scoped0 : Ref sig .tc := ⟨.vmem, 4, rfl⟩
abbrev cc0_scoped2 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_33_r0 : BitVec 32 := 0#32
  let c2_i32_r0 : BitVec 32 := 2#32
  let v49_r0 : BitVec 32 := Scalar.remui c0_i32_33_r0 c2_i32_r0
  ![v49_r0.toNat]
def k0_off2 : Fin 3 → Nat :=
  let c0_i32_33_r0 : BitVec 32 := 0#32
  let c2_i32_r0 : BitVec 32 := 2#32
  let v49_r0 : BitVec 32 := Scalar.remui c0_i32_33_r0 c2_i32_r0
  let c0_i32_34_r0 : BitVec 32 := 0#32
  let c0_i32_35_r0 : BitVec 32 := 0#32
  ![v49_r0.toNat, 0, 0]
@[reducible] def k0_t1_loop : Scf.Loop 32 :=
  let c0_i32_44_r0 : BitVec 32 := 0#32
  let c32_i32_45_r0 : BitVec 32 := 32#32
  let v56_r0 : BitVec 32 := Scalar.addi c0_i32_44_r0 c32_i32_45_r0
  let c1_i32_46_r0 : BitVec 32 := 1#32
  ⟨c0_i32_44_r0, v56_r0, c1_i32_46_r0⟩
def k0_off3 (arg11_r0 : BitVec 32) : Fin 1 → Nat :=
  let c2_i32_129_r0 : BitVec 32 := 2#32
  let v179_r0 : BitVec 32 := Scalar.remui arg11_r0 c2_i32_129_r0
  ![v179_r0.toNat]
def k0_cond1 (k0_t1 : Fin k0_t1_loop.trips) (arg15_r0 : BitVec 32) : BitVec 1 :=
  let c0_i32_74_r0 : BitVec 32 := 0#32
  let v87_r0 : BitVec 32 := Scalar.addi arg15_r0 c0_i32_74_r0
  let true_81_r0 : BitVec 1 := 1#1
  let c1_i32_80_r0 : BitVec 32 := 1#32
  let v93_r0 : BitVec 32 := Scalar.addi arg15_r0 c1_i32_80_r0
  let v94_r0 : BitVec 32 := Scalar.select true_81_r0 v93_r0 arg15_r0
  let c32_i32_82_r0 : BitVec 32 := 32#32
  let v95_r0 : BitVec 1 := Scalar.cmpi .eq v94_r0 c32_i32_82_r0
  let c0_i32_83_r0 : BitVec 32 := 0#32
  let v96_r0 : BitVec 32 := Scalar.select v95_r0 c0_i32_83_r0 v94_r0
  let c0_i32_84_r0 : BitVec 32 := 0#32
  let v97_r0 : BitVec 32 := Scalar.addi v96_r0 c0_i32_84_r0
  let v103_r0 : BitVec 1 := Scalar.cmpi .ne v87_r0 v97_r0
  let c0_i32_44_r0 : BitVec 32 := 0#32
  let c1_i32_46_r0 : BitVec 32 := 1#32
  let arg10_r0 : BitVec 32 := Scf.iv c0_i32_44_r0 c1_i32_46_r0 k0_t1
  let c31_i32_90_r0 : BitVec 32 := 31#32
  let v104_r0 : BitVec 1 := Scalar.cmpi .sge arg10_r0 c31_i32_90_r0
  let true_91_r0 : BitVec 1 := 1#1
  let v105_r0 : BitVec 1 := Scalar.xori v104_r0 true_91_r0
  let v106_r0 : BitVec 1 := Scalar.andi v103_r0 v105_r0
  let true_92_r0 : BitVec 1 := 1#1
  let v107_r0 : BitVec 1 := Scalar.andi v106_r0 true_92_r0
  let v108_r0 : BitVec 32 := Scalar.extui v107_r0
  let c0_i32_93_r0 : BitVec 32 := 0#32
  let v109_r0 : BitVec 1 := Scalar.cmpi .ne v108_r0 c0_i32_93_r0
  v109_r0

def k0_off4 (arg11_r0 : BitVec 32) : Fin 3 → Nat :=
  let c2_i32_129_r0 : BitVec 32 := 2#32
  let v179_r0 : BitVec 32 := Scalar.remui arg11_r0 c2_i32_129_r0
  let c0_i32_131_r0 : BitVec 32 := 0#32
  let c0_i32_132_r0 : BitVec 32 := 0#32
  ![v179_r0.toNat, 0, 0]
def k0_off5 (arg15_r0 : BitVec 32) : Fin 2 → Nat :=
  let c1024_i32_130_r0 : BitVec 32 := 1024#32
  let true_81_r0 : BitVec 1 := 1#1
  let c1_i32_80_r0 : BitVec 32 := 1#32
  let v93_r0 : BitVec 32 := Scalar.addi arg15_r0 c1_i32_80_r0
  let v94_r0 : BitVec 32 := Scalar.select true_81_r0 v93_r0 arg15_r0
  let c32_i32_82_r0 : BitVec 32 := 32#32
  let v95_r0 : BitVec 1 := Scalar.cmpi .eq v94_r0 c32_i32_82_r0
  let c0_i32_83_r0 : BitVec 32 := 0#32
  let v96_r0 : BitVec 32 := Scalar.select v95_r0 c0_i32_83_r0 v94_r0
  let c0_i32_84_r0 : BitVec 32 := 0#32
  let v97_r0 : BitVec 32 := Scalar.addi v96_r0 c0_i32_84_r0
  let v180_r0 : BitVec 32 := Scalar.muli c1024_i32_130_r0 v97_r0
  let c0_i32_133_r0 : BitVec 32 := 0#32
  ![v180_r0.toNat, 0]
def k0_off6 (arg12_r0 : BitVec 32) : Fin 1 → Nat :=
  let c2_i32_130_r0 : BitVec 32 := 2#32
  let v180_r0 : BitVec 32 := Scalar.remui arg12_r0 c2_i32_130_r0
  ![v180_r0.toNat]
def k0_cond2 (k0_t1 : Fin k0_t1_loop.trips) (arg15_r0 : BitVec 32) : BitVec 1 :=
  let c0_i32_74_r0 : BitVec 32 := 0#32
  let v87_r0 : BitVec 32 := Scalar.addi arg15_r0 c0_i32_74_r0
  let true_76_r0 : BitVec 1 := 1#1
  let c1_i32_75_r0 : BitVec 32 := 1#32
  let v88_r0 : BitVec 32 := Scalar.subi arg15_r0 c1_i32_75_r0
  let v89_r0 : BitVec 32 := Scalar.select true_76_r0 v88_r0 arg15_r0
  let c_m1_i32_77_r0 : BitVec 32 := 4294967295#32
  let v90_r0 : BitVec 1 := Scalar.cmpi .eq v89_r0 c_m1_i32_77_r0
  let c31_i32_78_r0 : BitVec 32 := 31#32
  let v91_r0 : BitVec 32 := Scalar.select v90_r0 c31_i32_78_r0 v89_r0
  let c0_i32_79_r0 : BitVec 32 := 0#32
  let v92_r0 : BitVec 32 := Scalar.addi v91_r0 c0_i32_79_r0
  let v117_r0 : BitVec 1 := Scalar.cmpi .ne v87_r0 v92_r0
  let c0_i32_44_r0 : BitVec 32 := 0#32
  let c1_i32_46_r0 : BitVec 32 := 1#32
  let arg10_r0 : BitVec 32 := Scf.iv c0_i32_44_r0 c1_i32_46_r0 k0_t1
  let c0_i32_72_r0 : BitVec 32 := 0#32
  let v85_r0 : BitVec 1 := Scalar.cmpi .eq arg10_r0 c0_i32_72_r0
  let v118_r0 : BitVec 1 := Scalar.ori v117_r0 v85_r0
  let c0_i32_98_r0 : BitVec 32 := 0#32
  let v119_r0 : BitVec 1 := Scalar.cmpi .sge arg10_r0 c0_i32_98_r0
  let v120_r0 : BitVec 1 := Scalar.andi v118_r0 v119_r0
  let v121_r0 : BitVec 32 := Scalar.extui v120_r0
  let c0_i32_99_r0 : BitVec 32 := 0#32
  let v122_r0 : BitVec 1 := Scalar.cmpi .ne v121_r0 c0_i32_99_r0
  v122_r0

def k0_off7 (arg12_r0 : BitVec 32) : Fin 3 → Nat :=
  let c2_i32_130_r0 : BitVec 32 := 2#32
  let v180_r0 : BitVec 32 := Scalar.remui arg12_r0 c2_i32_130_r0
  let c0_i32_131_r0 : BitVec 32 := 0#32
  let c0_i32_132_r0 : BitVec 32 := 0#32
  ![v180_r0.toNat, 0, 0]
def k0_off8 (arg15_r0 : BitVec 32) : Fin 2 → Nat :=
  let c1024_i32_129_r0 : BitVec 32 := 1024#32
  let c0_i32_74_r0 : BitVec 32 := 0#32
  let v87_r0 : BitVec 32 := Scalar.addi arg15_r0 c0_i32_74_r0
  let v179_r0 : BitVec 32 := Scalar.muli c1024_i32_129_r0 v87_r0
  let c0_i32_133_r0 : BitVec 32 := 0#32
  ![v179_r0.toNat, 0]
def k0_off9 (arg12_r0 : BitVec 32) : Fin 3 → Nat :=
  let c2_i32_102_r0 : BitVec 32 := 2#32
  let v129_r0 : BitVec 32 := Scalar.remui arg12_r0 c2_i32_102_r0
  let v131_r0 : Index := Scalar.indexCast v129_r0
  let c0_104_r0 : Index := 0#32
  let c0_105_r0 : Index := 0#32
  ![v131_r0.toNat, 0, 0]

def k0_chk2 (arg12_r0 : BitVec 32) : Prop :=
  (∀ a, (k0_off9 arg12_r0) a + S1x1024x4096.size a ≤ S2x1024x4096.size a)
theorem k0_off9_inb : ∀ (arg12_r0 : BitVec 32) (k0_hw2 : k0_chk2 arg12_r0), ∀ a, (k0_off9 arg12_r0) a + S1x1024x4096.size a ≤ S2x1024x4096.size a := fun arg12_r0 k0_hw2 => k0_hw2

def k0_off10 (arg13_r0 : BitVec 32) : Fin 3 → Nat :=
  let c2_i32_103_r0 : BitVec 32 := 2#32
  let v130_r0 : BitVec 32 := Scalar.remui arg13_r0 c2_i32_103_r0
  let v141_r0 : Index := Scalar.indexCast v130_r0
  let c0_111_r0 : Index := 0#32
  let c0_112_r0 : Index := 0#32
  ![v141_r0.toNat, 0, 0]

def k0_chk3 (arg13_r0 : BitVec 32) : Prop :=
  (∀ a, (k0_off10 arg13_r0) a + S1x1024x64.size a ≤ S2x1024x64.size a)
theorem k0_off10_inb : ∀ (arg13_r0 : BitVec 32) (k0_hw3 : k0_chk3 arg13_r0), ∀ a, (k0_off10 arg13_r0) a + S1x1024x64.size a ≤ S2x1024x64.size a := fun arg13_r0 k0_hw3 => k0_hw3

def k0_off11 (arg13_r0 : BitVec 32) : Fin 1 → Nat :=
  let c2_i32_129_r0 : BitVec 32 := 2#32
  let v179_r0 : BitVec 32 := Scalar.remui arg13_r0 c2_i32_129_r0
  ![v179_r0.toNat]
def k0_cond5 (k0_t1 : Fin k0_t1_loop.trips) (arg15_r0 : BitVec 32) : BitVec 1 :=
  let c0_i32_74_r0 : BitVec 32 := 0#32
  let v87_r0 : BitVec 32 := Scalar.addi arg15_r0 c0_i32_74_r0
  let true_81_r0 : BitVec 1 := 1#1
  let c1_i32_80_r0 : BitVec 32 := 1#32
  let v93_r0 : BitVec 32 := Scalar.addi arg15_r0 c1_i32_80_r0
  let v94_r0 : BitVec 32 := Scalar.select true_81_r0 v93_r0 arg15_r0
  let c32_i32_82_r0 : BitVec 32 := 32#32
  let v95_r0 : BitVec 1 := Scalar.cmpi .eq v94_r0 c32_i32_82_r0
  let c0_i32_83_r0 : BitVec 32 := 0#32
  let v96_r0 : BitVec 32 := Scalar.select v95_r0 c0_i32_83_r0 v94_r0
  let c0_i32_84_r0 : BitVec 32 := 0#32
  let v97_r0 : BitVec 32 := Scalar.addi v96_r0 c0_i32_84_r0
  let v150_r0 : BitVec 1 := Scalar.cmpi .ne v87_r0 v97_r0
  let c0_i32_44_r0 : BitVec 32 := 0#32
  let c1_i32_46_r0 : BitVec 32 := 1#32
  let arg10_r0 : BitVec 32 := Scf.iv c0_i32_44_r0 c1_i32_46_r0 k0_t1
  let c31_i32_73_r0 : BitVec 32 := 31#32
  let v86_r0 : BitVec 1 := Scalar.cmpi .eq arg10_r0 c31_i32_73_r0
  let v151_r0 : BitVec 1 := Scalar.ori v150_r0 v86_r0
  let v152_r0 : BitVec 32 := Scalar.extui v151_r0
  let c0_i32_114_r0 : BitVec 32 := 0#32
  let v153_r0 : BitVec 1 := Scalar.cmpi .ne v152_r0 c0_i32_114_r0
  v153_r0

def k0_off12 (arg15_r0 : BitVec 32) : Fin 2 → Nat :=
  let c1024_i32_130_r0 : BitVec 32 := 1024#32
  let c0_i32_74_r0 : BitVec 32 := 0#32
  let v87_r0 : BitVec 32 := Scalar.addi arg15_r0 c0_i32_74_r0
  let v180_r0 : BitVec 32 := Scalar.muli c1024_i32_130_r0 v87_r0
  let c0_i32_131_r0 : BitVec 32 := 0#32
  ![v180_r0.toNat, 0]
def k0_off13 (arg13_r0 : BitVec 32) : Fin 3 → Nat :=
  let c2_i32_129_r0 : BitVec 32 := 2#32
  let v179_r0 : BitVec 32 := Scalar.remui arg13_r0 c2_i32_129_r0
  let c0_i32_132_r0 : BitVec 32 := 0#32
  let c0_i32_133_r0 : BitVec 32 := 0#32
  ![v179_r0.toNat, 0, 0]
def k0_off14 (arg14_r0 : BitVec 32) : Fin 1 → Nat :=
  let c2_i32_129_r0 : BitVec 32 := 2#32
  let v179_r0 : BitVec 32 := Scalar.remui arg14_r0 c2_i32_129_r0
  ![v179_r0.toNat]
def k0_cond7 (k0_t1 : Fin k0_t1_loop.trips) (arg15_r0 : BitVec 32) : BitVec 1 :=
  let c0_i32_74_r0 : BitVec 32 := 0#32
  let v87_r0 : BitVec 32 := Scalar.addi arg15_r0 c0_i32_74_r0
  let true_76_r0 : BitVec 1 := 1#1
  let c1_i32_75_r0 : BitVec 32 := 1#32
  let v88_r0 : BitVec 32 := Scalar.subi arg15_r0 c1_i32_75_r0
  let v89_r0 : BitVec 32 := Scalar.select true_76_r0 v88_r0 arg15_r0
  let c_m1_i32_77_r0 : BitVec 32 := 4294967295#32
  let v90_r0 : BitVec 1 := Scalar.cmpi .eq v89_r0 c_m1_i32_77_r0
  let c31_i32_78_r0 : BitVec 32 := 31#32
  let v91_r0 : BitVec 32 := Scalar.select v90_r0 c31_i32_78_r0 v89_r0
  let c0_i32_79_r0 : BitVec 32 := 0#32
  let v92_r0 : BitVec 32 := Scalar.addi v91_r0 c0_i32_79_r0
  let v163_r0 : BitVec 1 := Scalar.cmpi .ne v87_r0 v92_r0
  let c0_i32_44_r0 : BitVec 32 := 0#32
  let c1_i32_46_r0 : BitVec 32 := 1#32
  let arg10_r0 : BitVec 32 := Scf.iv c0_i32_44_r0 c1_i32_46_r0 k0_t1
  let c0_i32_72_r0 : BitVec 32 := 0#32
  let v85_r0 : BitVec 1 := Scalar.cmpi .eq arg10_r0 c0_i32_72_r0
  let true_120_r0 : BitVec 1 := 1#1
  let v164_r0 : BitVec 1 := Scalar.xori v85_r0 true_120_r0
  let v165_r0 : BitVec 1 := Scalar.andi v163_r0 v164_r0
  let v166_r0 : BitVec 32 := Scalar.extui v165_r0
  let c0_i32_121_r0 : BitVec 32 := 0#32
  let v167_r0 : BitVec 1 := Scalar.cmpi .ne v166_r0 c0_i32_121_r0
  v167_r0

def k0_off15 (arg15_r0 : BitVec 32) : Fin 2 → Nat :=
  let c1024_i32_130_r0 : BitVec 32 := 1024#32
  let true_76_r0 : BitVec 1 := 1#1
  let c1_i32_75_r0 : BitVec 32 := 1#32
  let v88_r0 : BitVec 32 := Scalar.subi arg15_r0 c1_i32_75_r0
  let v89_r0 : BitVec 32 := Scalar.select true_76_r0 v88_r0 arg15_r0
  let c_m1_i32_77_r0 : BitVec 32 := 4294967295#32
  let v90_r0 : BitVec 1 := Scalar.cmpi .eq v89_r0 c_m1_i32_77_r0
  let c31_i32_78_r0 : BitVec 32 := 31#32
  let v91_r0 : BitVec 32 := Scalar.select v90_r0 c31_i32_78_r0 v89_r0
  let c0_i32_79_r0 : BitVec 32 := 0#32
  let v92_r0 : BitVec 32 := Scalar.addi v91_r0 c0_i32_79_r0
  let v180_r0 : BitVec 32 := Scalar.muli c1024_i32_130_r0 v92_r0
  let c0_i32_131_r0 : BitVec 32 := 0#32
  ![v180_r0.toNat, 0]
def k0_off16 (arg14_r0 : BitVec 32) : Fin 3 → Nat :=
  let c2_i32_129_r0 : BitVec 32 := 2#32
  let v179_r0 : BitVec 32 := Scalar.remui arg14_r0 c2_i32_129_r0
  let c0_i32_132_r0 : BitVec 32 := 0#32
  let c0_i32_133_r0 : BitVec 32 := 0#32
  ![v179_r0.toNat, 0, 0]

def k0_chk1 (k0_t1 : Fin k0_t1_loop.trips) (arg11_r0 : BitVec 32) (arg12_r0 : BitVec 32) (arg13_r0 : BitVec 32) (arg14_r0 : BitVec 32) (arg15_r0 : BitVec 32) : Prop :=
  (∀ (k0_h1 : k0_cond1 k0_t1 arg15_r0 = 1#1), ∀ a, (k0_off3 arg11_r0) a + S1.size a ≤ S2.size a) ∧
  (∀ (k0_h1 : k0_cond1 k0_t1 arg15_r0 = 1#1), ∀ a, (k0_off4 arg11_r0) a + S1x1024x4096.size a ≤ S2x1024x4096.size a) ∧
  (∀ (k0_h1 : k0_cond1 k0_t1 arg15_r0 = 1#1), ∀ a, (k0_off5 arg15_r0) a + S1024x4096.size a ≤ S32768x4096.size a) ∧
  (∀ (k0_h2 : k0_cond2 k0_t1 arg15_r0 = 1#1), ∀ a, (k0_off6 arg12_r0) a + S1.size a ≤ S2.size a) ∧
  (∀ (k0_h2 : k0_cond2 k0_t1 arg15_r0 = 1#1), ∀ a, (k0_off7 arg12_r0) a + S1x1024x4096.size a ≤ S2x1024x4096.size a) ∧
  (∀ (k0_h2 : k0_cond2 k0_t1 arg15_r0 = 1#1), ∀ a, (k0_off8 arg15_r0) a + S1024x4096.size a ≤ S32768x4096.size a) ∧
  (∀ (k0_h5 : k0_cond5 k0_t1 arg15_r0 = 1#1), ∀ a, (k0_off11 arg13_r0) a + S1.size a ≤ S2.size a) ∧
  (∀ (k0_h5 : k0_cond5 k0_t1 arg15_r0 = 1#1), ∀ a, (k0_off12 arg15_r0) a + S1024x64.size a ≤ S32768x64.size a) ∧
  (∀ (k0_h5 : k0_cond5 k0_t1 arg15_r0 = 1#1), ∀ a, (k0_off13 arg13_r0) a + S1x1024x64.size a ≤ S2x1024x64.size a) ∧
  (∀ (k0_h7 : k0_cond7 k0_t1 arg15_r0 = 1#1), ∀ a, (k0_off14 arg14_r0) a + S1.size a ≤ S2.size a) ∧
  (∀ (k0_h7 : k0_cond7 k0_t1 arg15_r0 = 1#1), ∀ a, (k0_off15 arg15_r0) a + S1024x64.size a ≤ S32768x64.size a) ∧
  (∀ (k0_h7 : k0_cond7 k0_t1 arg15_r0 = 1#1), ∀ a, (k0_off16 arg14_r0) a + S1x1024x64.size a ≤ S2x1024x64.size a)
theorem k0_off3_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h1 : k0_cond1 k0_t1 arg15_r0 = 1#1), ∀ a, (k0_off3 arg11_r0) a + S1.size a ≤ S2.size a := fun k0_t1 arg11_r0 arg12_r0 arg13_r0 arg14_r0 arg15_r0 k0_hw1 k0_h1 => k0_hw1.1 k0_h1
theorem k0_off4_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h1 : k0_cond1 k0_t1 arg15_r0 = 1#1), ∀ a, (k0_off4 arg11_r0) a + S1x1024x4096.size a ≤ S2x1024x4096.size a := fun k0_t1 arg11_r0 arg12_r0 arg13_r0 arg14_r0 arg15_r0 k0_hw1 k0_h1 => k0_hw1.2.1 k0_h1
theorem k0_off5_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h1 : k0_cond1 k0_t1 arg15_r0 = 1#1), ∀ a, (k0_off5 arg15_r0) a + S1024x4096.size a ≤ S32768x4096.size a := fun k0_t1 arg11_r0 arg12_r0 arg13_r0 arg14_r0 arg15_r0 k0_hw1 k0_h1 => k0_hw1.2.2.1 k0_h1
theorem k0_off6_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h2 : k0_cond2 k0_t1 arg15_r0 = 1#1), ∀ a, (k0_off6 arg12_r0) a + S1.size a ≤ S2.size a := fun k0_t1 arg11_r0 arg12_r0 arg13_r0 arg14_r0 arg15_r0 k0_hw1 k0_h2 => k0_hw1.2.2.2.1 k0_h2
theorem k0_off7_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h2 : k0_cond2 k0_t1 arg15_r0 = 1#1), ∀ a, (k0_off7 arg12_r0) a + S1x1024x4096.size a ≤ S2x1024x4096.size a := fun k0_t1 arg11_r0 arg12_r0 arg13_r0 arg14_r0 arg15_r0 k0_hw1 k0_h2 => k0_hw1.2.2.2.2.1 k0_h2
theorem k0_off8_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h2 : k0_cond2 k0_t1 arg15_r0 = 1#1), ∀ a, (k0_off8 arg15_r0) a + S1024x4096.size a ≤ S32768x4096.size a := fun k0_t1 arg11_r0 arg12_r0 arg13_r0 arg14_r0 arg15_r0 k0_hw1 k0_h2 => k0_hw1.2.2.2.2.2.1 k0_h2
theorem k0_off11_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h5 : k0_cond5 k0_t1 arg15_r0 = 1#1), ∀ a, (k0_off11 arg13_r0) a + S1.size a ≤ S2.size a := fun k0_t1 arg11_r0 arg12_r0 arg13_r0 arg14_r0 arg15_r0 k0_hw1 k0_h5 => k0_hw1.2.2.2.2.2.2.1 k0_h5
theorem k0_off12_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h5 : k0_cond5 k0_t1 arg15_r0 = 1#1), ∀ a, (k0_off12 arg15_r0) a + S1024x64.size a ≤ S32768x64.size a := fun k0_t1 arg11_r0 arg12_r0 arg13_r0 arg14_r0 arg15_r0 k0_hw1 k0_h5 => k0_hw1.2.2.2.2.2.2.2.1 k0_h5
theorem k0_off13_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h5 : k0_cond5 k0_t1 arg15_r0 = 1#1), ∀ a, (k0_off13 arg13_r0) a + S1x1024x64.size a ≤ S2x1024x64.size a := fun k0_t1 arg11_r0 arg12_r0 arg13_r0 arg14_r0 arg15_r0 k0_hw1 k0_h5 => k0_hw1.2.2.2.2.2.2.2.2.1 k0_h5
theorem k0_off14_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h7 : k0_cond7 k0_t1 arg15_r0 = 1#1), ∀ a, (k0_off14 arg14_r0) a + S1.size a ≤ S2.size a := fun k0_t1 arg11_r0 arg12_r0 arg13_r0 arg14_r0 arg15_r0 k0_hw1 k0_h7 => k0_hw1.2.2.2.2.2.2.2.2.2.1 k0_h7
theorem k0_off15_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h7 : k0_cond7 k0_t1 arg15_r0 = 1#1), ∀ a, (k0_off15 arg15_r0) a + S1024x64.size a ≤ S32768x64.size a := fun k0_t1 arg11_r0 arg12_r0 arg13_r0 arg14_r0 arg15_r0 k0_hw1 k0_h7 => k0_hw1.2.2.2.2.2.2.2.2.2.2.1 k0_h7
theorem k0_off16_inb : ∀ (k0_t1 : Fin k0_t1_loop.trips) (arg11_r0 : BitVec 32) (arg12_r0 : BitVec 32) (arg13_r0 : BitVec 32) (arg14_r0 : BitVec 32) (arg15_r0 : BitVec 32) (k0_hw1 : k0_chk1 k0_t1 arg11_r0 arg12_r0 arg13_r0 arg14_r0 arg15_r0), ∀ (k0_h7 : k0_cond7 k0_t1 arg15_r0 = 1#1), ∀ a, (k0_off16 arg14_r0) a + S1x1024x64.size a ≤ S2x1024x64.size a := fun k0_t1 arg11_r0 arg12_r0 arg13_r0 arg14_r0 arg15_r0 k0_hw1 k0_h7 => k0_hw1.2.2.2.2.2.2.2.2.2.2.2 k0_h7

def k0_off17 (v57_3_r0 : BitVec 32) : Fin 1 → Nat :=
  let c2_i32_68_r0 : BitVec 32 := 2#32
  let v78_r0 : BitVec 32 := Scalar.remui v57_3_r0 c2_i32_68_r0
  ![v78_r0.toNat]

def k0_off18 (v57_4_r0 : BitVec 32) : Fin 2 → Nat :=
  let c1024_i32_r0 : BitVec 32 := 1024#32
  let true_49_r0 : BitVec 1 := 1#1
  let c1_i32_48_r0 : BitVec 32 := 1#32
  let v58_r0 : BitVec 32 := Scalar.subi v57_4_r0 c1_i32_48_r0
  let v59_r0 : BitVec 32 := Scalar.select true_49_r0 v58_r0 v57_4_r0
  let c_m1_i32_50_r0 : BitVec 32 := 4294967295#32
  let v60_r0 : BitVec 1 := Scalar.cmpi .eq v59_r0 c_m1_i32_50_r0
  let c31_i32_51_r0 : BitVec 32 := 31#32
  let v61_r0 : BitVec 32 := Scalar.select v60_r0 c31_i32_51_r0 v59_r0
  let c0_i32_52_r0 : BitVec 32 := 0#32
  let v62_r0 : BitVec 32 := Scalar.addi v61_r0 c0_i32_52_r0
  let v79_r0 : BitVec 32 := Scalar.muli c1024_i32_r0 v62_r0
  let c0_i32_69_r0 : BitVec 32 := 0#32
  ![v79_r0.toNat, 0]

def k0_chk5 (v57_4_r0 : BitVec 32) : Prop :=
  (∀ a, (k0_off18 v57_4_r0) a + S1024x64.size a ≤ S32768x64.size a)
theorem k0_off18_inb : ∀ (v57_4_r0 : BitVec 32) (k0_hw5 : k0_chk5 v57_4_r0), ∀ a, (k0_off18 v57_4_r0) a + S1024x64.size a ≤ S32768x64.size a := fun v57_4_r0 k0_hw5 => k0_hw5

def k0_off19 (v57_3_r0 : BitVec 32) : Fin 3 → Nat :=
  let c2_i32_68_r0 : BitVec 32 := 2#32
  let v78_r0 : BitVec 32 := Scalar.remui v57_3_r0 c2_i32_68_r0
  let c0_i32_70_r0 : BitVec 32 := 0#32
  let c0_i32_71_r0 : BitVec 32 := 0#32
  ![v78_r0.toNat, 0, 0]

def k0_chk4 (v57_3_r0 : BitVec 32) : Prop :=
  (∀ a, (k0_off17 v57_3_r0) a + S1.size a ≤ S2.size a) ∧
  (∀ a, (k0_off19 v57_3_r0) a + S1x1024x64.size a ≤ S2x1024x64.size a)
theorem k0_off17_inb : ∀ (v57_3_r0 : BitVec 32) (k0_hw4 : k0_chk4 v57_3_r0), ∀ a, (k0_off17 v57_3_r0) a + S1.size a ≤ S2.size a := fun v57_3_r0 k0_hw4 => k0_hw4.1
theorem k0_off19_inb : ∀ (v57_3_r0 : BitVec 32) (k0_hw4 : k0_chk4 v57_3_r0), ∀ a, (k0_off19 v57_3_r0) a + S1x1024x64.size a ≤ S2x1024x64.size a := fun v57_3_r0 k0_hw4 => k0_hw4.2
-- ==== ReferenceIdeal.lean ====
abbrev S32768x4096 : Shape := ⟨2, ![32768, 4096]⟩
abbrev S4x4096x64 : Shape := ⟨3, ![4, 4096, 64]⟩
abbrev S4x64 : Shape := ⟨2, ![4, 64]⟩
abbrev S4x64x32768 : Shape := ⟨3, ![4, 64, 32768]⟩
abbrev S4x32768x64 : Shape := ⟨3, ![4, 32768, 64]⟩
abbrev S4x1x64 : Shape := ⟨3, ![4, 1, 64]⟩
abbrev S_ : Shape := ⟨0, ![]⟩
abbrev S32768x64 : Shape := ⟨2, ![32768, 64]⟩

abbrev nBuf : Space → Nat
  | .hbm => 13
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4x4096x64, .f32⟩
  | .hbm, ⟨2, _⟩ => ⟨S4x64, .f32⟩
  | .hbm, ⟨3, _⟩ => ⟨S4x64x32768, .f32⟩
  | .hbm, ⟨4, _⟩ => ⟨S4x32768x64, .f32⟩
  | .hbm, ⟨5, _⟩ => ⟨S4x1x64, .f32⟩
  | .hbm, ⟨6, _⟩ => ⟨S4x32768x64, .f32⟩
  | .hbm, ⟨7, _⟩ => ⟨S4x32768x64, .f32⟩
  | .hbm, ⟨8, _⟩ => ⟨S_, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Names.lean ====
/-
  The names the proof of the pipelined launch speaks of: the blocks of the input and of the result, the two slots of
  each staging buffer, the two semaphores of each, and the words a trip carries in closed form.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Ring.WriteBehind
public import Idealize.ShloMosaic.Lib.Tactic

@[expose] public section

noncomputable section

namespace Cert.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Blocks, slots, semaphores -/

abbrev xM : Memref sig .tc .hbm S32768x4096 .f32 := Memref.whole main_arg0
abbrev oM : Memref sig .tc .hbm S32768x64 .f32 := Memref.whole main_v0
abbrev ibM : Memref sig .tc .vmem S2x1024x4096 .f32 := Memref.whole cc0_scoped0
abbrev obM : Memref sig .tc .vmem S2x1024x64 .f32 := Memref.whole cc0_scoped2

/-- Where block `b`'s rows start. -/
abbrev blkOff (b : Fin 32) : Fin 2 → Nat := ![1024 * b.val, 0]
/-- Where slot `s` starts. -/
abbrev slotOff (s : Fin 2) : Fin 3 → Nat := ![s.val, 0, 0]
/-- Where slot `s`'s semaphore is. -/
abbrev semOff (s : Fin 2) : Fin 1 → Nat := ![s.val]

theorem xOff_inb (b : Fin 32) : ∀ a, blkOff b a + S1024x4096.size a ≤ S32768x4096.size a := by
  have := b.isLt
  intro a; fin_cases a
  · show 1024 * b.val + 1024 ≤ 32768; omega
  · show 0 + 4096 ≤ 4096; omega
theorem oOff_inb (b : Fin 32) : ∀ a, blkOff b a + S1024x64.size a ≤ S32768x64.size a := by
  have := b.isLt
  intro a; fin_cases a
  · show 1024 * b.val + 1024 ≤ 32768; omega
  · show 0 + 64 ≤ 64; omega
theorem isOff_inb (s : Fin 2) : ∀ a, slotOff s a + S1x1024x4096.size a ≤ S2x1024x4096.size a := by
  have := s.isLt
  intro a; fin_cases a
  · show s.val + 1 ≤ 2; omega
  · show 0 + 1024 ≤ 1024; omega
  · show 0 + 4096 ≤ 4096; omega
theorem osOff_inb (s : Fin 2) : ∀ a, slotOff s a + S1x1024x64.size a ≤ S2x1024x64.size a := by
  have := s.isLt
  intro a; fin_cases a
  · show s.val + 1 ≤ 2; omega
  · show 0 + 1024 ≤ 1024; omega
  · show 0 + 64 ≤ 64; omega
theorem semOff_inb (s : Fin 2) : ∀ a, semOff s a + S1.size a ≤ S2.size a := by
  have := s.isLt
  intro a; fin_cases a; show s.val + 1 ≤ 2; omega

/-- Block `b` of the input. -/
def xblk (b : Fin 32) : Memref sig .tc .hbm S1024x4096 .f32 :=
  xM.slice (Rect.unit (s := S32768x4096) (blkOff b) S1024x4096.size (xOff_inb b)) (fun _ => rfl)
/-- Block `b` of the result. -/
def oblk (b : Fin 32) : Memref sig .tc .hbm S1024x64 .f32 :=
  oM.slice (Rect.unit (s := S32768x64) (blkOff b) S1024x64.size (oOff_inb b)) (fun _ => rfl)
/-- Slot `s` of the input's staging buffer. -/
def islot (s : Fin 2) : Memref sig .tc .vmem S1024x4096 .f32 :=
  (ibM.slice (Rect.unit (s := S2x1024x4096) (slotOff s) S1x1024x4096.size (isOff_inb s)) (fun _ => rfl)).squeeze S1024x4096
    squeezes_S1x1024x4096_S1024x4096
/-- Slot `s` of the result's staging buffer. -/
def oslot (s : Fin 2) : Memref sig .tc .vmem S1024x64 .f32 :=
  (obM.slice (Rect.unit (s := S2x1024x64) (slotOff s) S1x1024x64.size (osOff_inb s)) (fun _ => rfl)).squeeze S1024x64
    squeezes_S1x1024x64_S1024x64
/-- The semaphore of the input's slot `s`. -/
def ism (s : Fin 2) : DmaSems sig S_ :=
  (cc0_scoped1.slice (Rect.unit (s := S2) (semOff s) S1.size (semOff_inb s))).squeeze S_ squeezes_S1_S_
/-- The semaphore of the result's slot `s`. -/
def osm (s : Fin 2) : DmaSems sig S_ :=
  (cc0_scoped3.slice (Rect.unit (s := S2) (semOff s) S1.size (semOff_inb s))).squeeze S_ squeezes_S1_S_

instance (s : Fin 2) : ClosedOff (slotOff s) := ⟨slotOff s, rfl⟩
instance (b : Fin 32) : ClosedOff (blkOff b) := ⟨blkOff b, rfl⟩

/-! ## The words before trip `k`, and what a trip computes from them -/

abbrev Trip := Fin k0_t1_loop.trips

theorem trips_eq : k0_t1_loop.trips = 32 := by decide +kernel
theorem trip_lt (k : Trip) : k.val < 32 := Nat.lt_of_lt_of_eq k.isLt trips_eq

/-- The copy-in counter before trip `k`: one ahead of the trip, up to the last block; -/
abbrev wIn (k : ℕ) : BitVec 32 := BitVec.ofNat 32 (min (k + 1) 32)
/-- the wait-in and copy-out counters: the trip; -/
abbrev wK (k : ℕ) : BitVec 32 := BitVec.ofNat 32 k
/-- the wait-out counter: one behind the trip; -/
abbrev wOut (k : ℕ) : BitVec 32 := BitVec.ofNat 32 (k - 1)
/-- the grid's index, wrapping to zero after the last block. -/
abbrev wIx (k : ℕ) : BitVec 32 := BitVec.ofNat 32 (if k = 32 then 0 else k)
/-- What the loop carries before trip `k`. -/
abbrev accAt (k : ℕ) : BitVec 32 × BitVec 32 × BitVec 32 × BitVec 32 × BitVec 32 := (wIn k, wK k, wK k, wOut k, wIx k)

/-- A block is copied in at every trip but the last; -/
theorem cond1_eq : ∀ k : Trip, k0_cond1 k (wIx k) = 1#1 ↔ k.val < 31 := by decide +kernel
/-- one is waited for at every trip; -/
theorem cond2_eq : ∀ k : Trip, k0_cond2 k (wIx k) = 1#1 := by decide +kernel
/-- one is copied out at every trip; -/
theorem cond5_eq : ∀ k : Trip, k0_cond5 k (wIx k) = 1#1 := by decide +kernel
/-- one written back is waited for at every trip but the first. -/
theorem cond7_eq : ∀ k : Trip, k0_cond7 k (wIx k) = 1#1 ↔ 0 < k.val := by decide +kernel

/-- The side conditions of a trip hold at its words; -/
theorem chk1_at : ∀ k : Trip, k0_chk1 k (wIn k) (wK k) (wK k) (wOut k) (wIx k) := by decide +kernel
theorem chk2_at : ∀ k : Trip, k0_chk2 (wK k) := by decide +kernel
theorem chk3_at : ∀ k : Trip, k0_chk3 (wK k) := by decide +kernel
/-- and those after the loop. -/
theorem chk4_at : k0_chk4 (wOut 32) := by decide +kernel
theorem chk5_at : k0_chk5 (wIx 32) := by decide +kernel

theorem off3_eq : ∀ k : Trip, k.val < 31 → k0_off3 (wIn k) = semOff (Ring.sl 2 (k.val + 1)) := by decide +kernel
theorem off4_eq : ∀ k : Trip, k.val < 31 → k0_off4 (wIn k) = slotOff (Ring.sl 2 (k.val + 1)) := by decide +kernel
theorem off5_eq : ∀ k : Trip, k.val < 31 → k0_off5 (wIx k) = blkOff (Ring.bk 32 (k.val + 1)) := by decide +kernel
theorem off6_eq : ∀ k : Trip, k0_off6 (wK k) = semOff (Ring.sl 2 k.val) := by decide +kernel
theorem off7_eq : ∀ k : Trip, k0_off7 (wK k) = slotOff (Ring.sl 2 k.val) := by decide +kernel
theorem off8_eq : ∀ k : Trip, k0_off8 (wIx k) = blkOff (Ring.bk 32 k.val) := by decide +kernel
theorem off9_eq : ∀ k : Trip, k0_off9 (wK k) = slotOff (Ring.sl 2 k.val) := by decide +kernel
theorem off10_eq : ∀ k : Trip, k0_off10 (wK k) = slotOff (Ring.sl 2 k.val) := by decide +kernel
theorem off11_eq : ∀ k : Trip, k0_off11 (wK k) = semOff (Ring.sl 2 k.val) := by decide +kernel
theorem off12_eq : ∀ k : Trip, k0_off12 (wIx k) = blkOff (Ring.bk 32 k.val) := by decide +kernel
theorem off13_eq : ∀ k : Trip, k0_off13 (wK k) = slotOff (Ring.sl 2 k.val) := by decide +kernel
theorem off14_eq : ∀ k : Trip, 0 < k.val → k0_off14 (wOut k) = semOff (Ring.sl 2 (k.val + 1)) := by decide +kernel
theorem off15_eq : ∀ k : Trip, 0 < k.val → k0_off15 (wIx k) = blkOff (Ring.bk 32 (k.val - 1)) := by decide +kernel
theorem off16_eq : ∀ k : Trip, 0 < k.val → k0_off16 (wOut k) = slotOff (Ring.sl 2 (k.val + 1)) := by decide +kernel
theorem off17_eq : k0_off17 (wOut 32) = semOff 1 := by decide +kernel
theorem off18_eq : k0_off18 (wIx 32) = blkOff 31 := by decide +kernel
theorem off19_eq : k0_off19 (wOut 32) = slotOff 1 := by decide +kernel

instance (k : Trip) : ClosedOff (k0_off9 (wK k.val)) := ⟨slotOff (Ring.sl 2 k.val), off9_eq k⟩
instance (k : Trip) : ClosedOff (k0_off10 (wK k.val)) := ⟨slotOff (Ring.sl 2 k.val), off10_eq k⟩

/-! ## The program's slices are these -/

theorem sem_congr (A : DmaSems sig S2) {off off' : Fin 1 → Nat} (e : off = off') (h) (h') :
    (A.slice (Rect.unit (s := S2) off S1.size h)).squeeze S_ squeezes_S1_S_
      = (A.slice (Rect.unit (s := S2) off' S1.size h')).squeeze S_ squeezes_S1_S_ := by
  subst e; rfl
theorem islot_congr {off : Fin 3 → Nat} {s : Fin 2} (e : off = slotOff s) (h hs) :
    (ibM.slice (Rect.unit (s := S2x1024x4096) off S1x1024x4096.size h) hs).squeeze S1024x4096
      squeezes_S1x1024x4096_S1024x4096 = islot s := by
  subst e; rfl
theorem oslot_congr {off : Fin 3 → Nat} {s : Fin 2} (e : off = slotOff s) (h hs) :
    (obM.slice (Rect.unit (s := S2x1024x64) off S1x1024x64.size h) hs).squeeze S1024x64
      squeezes_S1x1024x64_S1024x64 = oslot s := by
  subst e; rfl
theorem xblk_congr {off : Fin 2 → Nat} {b : Fin 32} (e : off = blkOff b) (h hs) :
    xM.slice (Rect.unit (s := S32768x4096) off S1024x4096.size h) hs = xblk b := by
  subst e; rfl
theorem oblk_congr {off : Fin 2 → Nat} {b : Fin 32} (e : off = blkOff b) (h hs) :
    oM.slice (Rect.unit (s := S32768x64) off S1024x64.size h) hs = oblk b := by
  subst e; rfl

-- before the loop: block 0 into slot 0
@[sl_canon] theorem sem_1 (h) : (cc0_scoped1.slice (Rect.unit (s := S2) k0_off1 S1.size h)).squeeze S_ squeezes_S1_S_ = ism 0 :=
  sem_congr _ (by decide +kernel) _ _
@[sl_canon] theorem slot_2 (h hs) : (ibM.slice (Rect.unit (s := S2x1024x4096) k0_off2 S1x1024x4096.size h) hs).squeeze S1024x4096
    squeezes_S1x1024x4096_S1024x4096 = islot 0 := islot_congr (by decide +kernel) _ _
@[sl_canon] theorem blk_0 (h hs) : xM.slice (Rect.unit (s := S32768x4096) ![0, 0] S1024x4096.size h) hs = xblk 0 :=
  xblk_congr (by decide +kernel) _ _

-- trip `k`: block `k + 1` into the other slot
@[sl_canon] theorem sem_3 (k : Trip) (hk : k.val < 31) (h) :
    (cc0_scoped1.slice (Rect.unit (s := S2) (k0_off3 (wIn k.val)) S1.size h)).squeeze S_ squeezes_S1_S_ = ism (Ring.sl 2 (k.val + 1)) :=
  sem_congr _ (off3_eq k hk) _ _
@[sl_canon] theorem slot_4 (k : Trip) (hk : k.val < 31) (h hs) :
    (ibM.slice (Rect.unit (s := S2x1024x4096) (k0_off4 (wIn k.val)) S1x1024x4096.size h) hs).squeeze S1024x4096
      squeezes_S1x1024x4096_S1024x4096 = islot (Ring.sl 2 (k.val + 1)) := islot_congr (off4_eq k hk) _ _
@[sl_canon] theorem blk_5 (k : Trip) (hk : k.val < 31) (h hs) :
    xM.slice (Rect.unit (s := S32768x4096) (k0_off5 (wIx k.val)) S1024x4096.size h) hs = xblk (Ring.bk 32 (k.val + 1)) :=
  xblk_congr (off5_eq k hk) _ _
-- block `k` waited for
@[sl_canon] theorem sem_6 (k : Trip) (h) :
    (cc0_scoped1.slice (Rect.unit (s := S2) (k0_off6 (wK k.val)) S1.size h)).squeeze S_ squeezes_S1_S_ = ism (Ring.sl 2 k.val) :=
  sem_congr _ (off6_eq k) _ _
@[sl_canon] theorem slot_7 (k : Trip) (h hs) :
    (ibM.slice (Rect.unit (s := S2x1024x4096) (k0_off7 (wK k.val)) S1x1024x4096.size h) hs).squeeze S1024x4096
      squeezes_S1x1024x4096_S1024x4096 = islot (Ring.sl 2 k.val) := islot_congr (off7_eq k) _ _
@[sl_canon] theorem blk_8 (k : Trip) (h hs) :
    xM.slice (Rect.unit (s := S32768x4096) (k0_off8 (wIx k.val)) S1024x4096.size h) hs = xblk (Ring.bk 32 k.val) :=
  xblk_congr (off8_eq k) _ _
-- the result's block `k` copied out
@[sl_canon] theorem sem_11 (k : Trip) (h) :
    (cc0_scoped3.slice (Rect.unit (s := S2) (k0_off11 (wK k.val)) S1.size h)).squeeze S_ squeezes_S1_S_ = osm (Ring.sl 2 k.val) :=
  sem_congr _ (off11_eq k) _ _
@[sl_canon] theorem blk_12 (k : Trip) (h hs) :
    oM.slice (Rect.unit (s := S32768x64) (k0_off12 (wIx k.val)) S1024x64.size h) hs = oblk (Ring.bk 32 k.val) :=
  oblk_congr (off12_eq k) _ _
@[sl_canon] theorem slot_13 (k : Trip) (h hs) :
    (obM.slice (Rect.unit (s := S2x1024x64) (k0_off13 (wK k.val)) S1x1024x64.size h) hs).squeeze S1024x64
      squeezes_S1x1024x64_S1024x64 = oslot (Ring.sl 2 k.val) := oslot_congr (off13_eq k) _ _
-- the result's block `k - 1` waited for
@[sl_canon] theorem sem_14 (k : Trip) (hk : 0 < k.val) (h) :
    (cc0_scoped3.slice (Rect.unit (s := S2) (k0_off14 (wOut k.val)) S1.size h)).squeeze S_ squeezes_S1_S_ = osm (Ring.sl 2 (k.val + 1)) :=
  sem_congr _ (off14_eq k hk) _ _
@[sl_canon] theorem blk_15 (k : Trip) (hk : 0 < k.val) (h hs) :
    oM.slice (Rect.unit (s := S32768x64) (k0_off15 (wIx k.val)) S1024x64.size h) hs = oblk (Ring.bk 32 (k.val - 1)) :=
  oblk_congr (off15_eq k hk) _ _
@[sl_canon] theorem slot_16 (k : Trip) (hk : 0 < k.val) (h hs) :
    (obM.slice (Rect.unit (s := S2x1024x64) (k0_off16 (wOut k.val)) S1x1024x64.size h) hs).squeeze S1024x64
      squeezes_S1x1024x64_S1024x64 = oslot (Ring.sl 2 (k.val + 1)) := oslot_congr (off16_eq k hk) _ _
-- after the loop: the last block waited for
@[sl_canon] theorem sem_17 (h) :
    (cc0_scoped3.slice (Rect.unit (s := S2) (k0_off17 (wOut 32)) S1.size h)).squeeze S_ squeezes_S1_S_ = osm 1 :=
  sem_congr _ off17_eq _ _
@[sl_canon] theorem blk_18 (h hs) :
    oM.slice (Rect.unit (s := S32768x64) (k0_off18 (wIx 32)) S1024x64.size h) hs = oblk 31 := oblk_congr off18_eq _ _
@[sl_canon] theorem slot_19 (h hs) :
    (obM.slice (Rect.unit (s := S2x1024x64) (k0_off19 (wOut 32)) S1x1024x64.size h) hs).squeeze S1024x64
      squeezes_S1x1024x64_S1024x64 = oslot 1 := oslot_congr off19_eq _ _

end Cert.Pipe
-- ==== Proof.Trip.lean ====
/-
  One trip of the pipeline, at a symbolic trip number: what it holds before, what it holds after, what it leaves in the
  result's block; and the loop's invariant from the three kinds of trip (the first, one between, the last).
-/
module

public import proofs.«01_k».proof.Proof.Names
public import Idealize.ShloMosaic.Lib.Pipeline.Value

@[expose] public section

noncomputable section

namespace Cert.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra the launch is proved at: the pipeline library's, beside the counters of the copies in flight. -/
abbrev UU (nD : Nat) (τ : Topo) : Type := UR sig nD τ × Counters
local notation "𝕄" => MT nD τ sig Unit (Elt F) ℕ (UU nD τ) ℕ
abbrev 𝒱₀ : Variants := Variants.none

/-! ## The pieces -/

section Pieces
variable (c : Dev nD) (X : Buf (Elt F) (xM.view.loc (c : Thread nD τ)))

/-- Block `b` of the input, at the input's contents. -/
abbrev homeP (b : Fin 32) : sProp 𝕄 := (xblk b).view.loc (c : Thread nD τ) ↦[(xblk b).view.set]{fullShare} X
abbrev islotP (s : Fin 2) (f : Buf (Elt F) ((islot s).view.loc (c : Thread nD τ))) : sProp 𝕄 :=
  (islot s).view.loc (c : Thread nD τ) ↦[(islot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev oblkP (b : Fin 32) (f : Buf (Elt F) ((oblk b).view.loc (c : Thread nD τ))) : sProp 𝕄 :=
  (oblk b).view.loc (c : Thread nD τ) ↦[(oblk b).view.set]{fullShare} f
abbrev icell (s : Fin 2) : sProp 𝕄 := semVal ((c : Thread nD τ), SemLoc.dma (ism s).sem) 0
abbrev ocell (s : Fin 2) : sProp 𝕄 := semVal ((c : Thread nD τ), SemLoc.dma (osm s).sem) 0
/-- What block `b` leaves in slot `s`. -/
abbrev landed (s : Fin 2) (b : Fin 32) (f : Buf (Elt F) ((islot s).view.loc (c : Thread nD τ))) :
    Buf (Elt F) ((islot s).view.loc (c : Thread nD τ)) :=
  (islot s).view.writes (Elt F) f [⟨Rect.whole S1024x4096, ReadAs.same.apply ((xblk b).view.read (Elt F) X)⟩]
/-- Block `b` of the input on its way into slot `s`. -/
abbrev iflight (s : Fin 2) (b : Fin 32) (f : Buf (Elt F) ((islot s).view.loc (c : Thread nD τ))) : sProp 𝕄 :=
  Transfers.Flight countersEmb (c : Thread nD τ) (SemLoc.dma (ism s).sem) () 524288
    iprop(islotP c s (landed c X s b f) ∗ homeP c X b)
/-- Slot `s` of the result on its way to block `b`. -/
abbrev oflight (s : Fin 2) (b : Fin 32) (fd : Buf (Elt F) ((oblk b).view.loc (c : Thread nD τ)))
    (fs : Buf (Elt F) ((oslot s).view.loc (c : Thread nD τ))) : sProp 𝕄 :=
  Transfers.Flight countersEmb (c : Thread nD τ) (SemLoc.dma (osm s).sem) () 16384 iprop(oblkP c b fd ∗ oslotP c s fs)

end Pieces

/-- The averaged weights' buffer, and the averaged bias'. -/
abbrev wmM : Memref sig .tc .vmem S4096x64 .f32 := Memref.whole cc0_scratch2
abbrev bmM : Memref sig .tc .vmem S8x64 .f32 := Memref.whole cc0_scratch3

section Trip
variable (c : Dev nD) (X : Buf (Elt F) (xM.view.loc (c : Thread nD τ)))
  (Wm : Buf (Elt F) (wmM.view.loc (c : Thread nD τ))) (Bm : Buf (Elt F) (bmM.view.loc (c : Thread nD τ)))

abbrev wmP : sProp 𝕄 := wmM.view.loc (c : Thread nD τ) ↦[wmM.view.set]{fullShare} Wm
abbrev bmP : sProp 𝕄 := bmM.view.loc (c : Thread nD τ) ↦[bmM.view.set]{fullShare} Bm

/-- Block `b` of the result: the input's block times the averaged weights, plus the averaged bias in every row. -/
def outV (b : Fin 32) : FVec F S1024x64 .f32 :=
  addf (matmul dot_S1024x4096_S4096x64_S1024x64_1_0_0_1_n_n none ((xblk b).view.read (Elt F) X)
      (wmM.view.readAt (Elt F) (Rect.unit (s := S4096x64) ![0, 0] S4096x64.size inb_S4096x64_S4096x64_0_0).toLoadRect Wm)
      (constant S1024x64 .f32 0x00000000#32))
    (broadcastTo S1024x64
      (bmM.view.readAt (Elt F) (Rect.unit (s := S8x64) ![0, 0] S1x64.size inb_S8x64_S1x64_0_0).toLoadRect Bm : FVec F S1x64 .f32)
      broadcasts_S1x64_S1024x64)

/-- What a trip stores, read as a slot is read, is the block. -/
theorem pay1_eq (x : FVec F S1024x4096 .f32) (w : FVec F S4096x64 .f32) (v : FVec F S1x64 .f32)
    (u : Vec F S1x1024x4096 .f32) (hu : shapeCast S1024x4096 u shapeCasts_S1x1024x4096_S1024x4096 = x) :
    shapeCast S1024x64 (k0_pay1 (F := F) u w v) squeezes_S1x1024x64_S1024x64.numel_eq
      = addf (matmul dot_S1024x4096_S4096x64_S1024x64_1_0_0_1_n_n none x w (constant S1024x64 .f32 0x00000000#32))
          (broadcastTo S1024x64 v broadcasts_S1x64_S1024x64) := by
  subst hu
  dsimp only [k0_pay1]
  rw [shapeCast_shapeCast, shapeCast_shapeCast]

/-- A slot just stored through the whole buffer reads the payload, its leading axis dropped. -/
theorem oslot_stored {off : Fin 3 → Nat} {s : Fin 2} (e : off = slotOff s) (inb)
    (f : Buf (Elt F) ((oslot s).view.loc (c : Thread nD τ))) (p : FVec F S1x1024x64 .f32) :
    (oslot s).view.read (Elt F)
        ((obM.access (Rect.unit (s := S2x1024x64) off S1x1024x64.size inb)).write (Elt F) f p Finset.univ)
      = shapeCast S1024x64 p squeezes_S1x1024x64_S1024x64.numel_eq := by
  subst e
  funext j
  exact congrFun (View.read_write_univ (v := obM.access (Rect.unit (s := S2x1024x64) (slotOff s) S1x1024x64.size inb)) f p) _

/-- A slot a block has landed in, loaded through the whole buffer, is the block with a leading axis. -/
theorem islot_loaded {off : Fin 3 → Nat} {s : Fin 2} (e : off = slotOff s) (inb)
    (f : Buf (Elt F) ((islot s).view.loc (c : Thread nD τ))) (q : FVec F S1024x4096 .f32) :
    shapeCast S1024x4096
        (ibM.view.readAt (Elt F) (Rect.unit (s := S2x1024x4096) off S1x1024x4096.size inb).toLoadRect
          ((islot s).view.writes (Elt F) f [⟨Rect.whole S1024x4096, q⟩]) : FVec F S1x1024x4096 .f32)
        shapeCasts_S1x1024x4096_S1024x4096 = q := by
  subst e
  funext j
  exact congrFun (View.read_writes_whole (islot s).view f q) j

/-- What a trip's copy leaves in block `b` of the result reads as `outV`. -/
theorem outV_landed {off9 off10 : Fin 3 → Nat} {s s' : Fin 2} (e9 : off9 = slotOff s) (e10 : off10 = slotOff s') (i9 i10)
    {b : Fin 32} (g : Buf (Elt F) ((oblk b).view.loc (c : Thread nD τ)))
    (h : Buf (Elt F) ((oslot s').view.loc (c : Thread nD τ))) :
    (oblk b).view.read (Elt F) ((oblk b).view.writes (Elt F) g [⟨Rect.whole S1024x64, ReadAs.same.apply
      ((oslot s').view.read (Elt F) ((obM.access (Rect.unit (s := S2x1024x64) off10 S1x1024x64.size i10)).write (Elt F) h
        (k0_pay1
          (ibM.view.readAt (Elt F) (Rect.unit (s := S2x1024x4096) off9 S1x1024x4096.size i9).toLoadRect
            ((islot s).view.writes (Elt F) (islot s).view.junk
              [⟨Rect.whole S1024x4096, ReadAs.same.apply ((xblk b).view.read (Elt F) X)⟩]))
          (wmM.view.readAt (Elt F) (Rect.unit (s := S4096x64) ![0, 0] S4096x64.size inb_S4096x64_S4096x64_0_0).toLoadRect Wm)
          (bmM.view.readAt (Elt F) (Rect.unit (s := S8x64) ![0, 0] S1x64.size inb_S8x64_S1x64_0_0).toLoadRect Bm))
        Finset.univ))⟩]) = outV c X Wm Bm b := by
  rw [View.read_writes_whole]
  refine (oslot_stored (F := F) c e10 i10 h _).trans ?_
  exact pay1_eq _ _ _ _ (islot_loaded (F := F) c e9 i9 _ _)

/-! ## The roles a slot and a block of the result play -/

/-- An input slot free: its words anything, its semaphore at zero. -/
def inFree (s : Fin 2) : sProp 𝕄 := iprop((∃ f, islotP c s f) ∗ icell c s)
/-- An input slot being filled with block `b`. -/
def inInfl (s : Fin 2) (b : Fin 32) : sProp 𝕄 := iprop(∃ f, iflight c X s b f)
/-- An output slot free. -/
def outFree (s : Fin 2) : sProp 𝕄 := iprop((∃ f, oslotP c s f) ∗ ocell c s)
/-- An output slot being written back to block `b`, which is to read `outV`. -/
def outInfl (s : Fin 2) (b : Fin 32) : sProp 𝕄 :=
  iprop(∃ f f', ⌜(oblk b).view.read (Elt F) f = outV c X Wm Bm b⌝ ∗ oflight c s b f f')
/-- A block of the result not written yet. -/
def outAhead (b : Fin 32) : sProp 𝕄 := iprop(∃ f, oblkP c b f)
/-- A block of the result written. -/
def outBehind (b : Fin 32) : sProp 𝕄 := iprop(∃ f, ⌜(oblk b).view.read (Elt F) f = outV c X Wm Bm b⌝ ∗ oblkP c b f)
/-- The two averages, and the core's waits. -/
def rest : sProp 𝕄 := iprop(wmP c Wm ∗ bmP c Bm ∗ ∃ W, owes (c : Thread nD τ) 0 W)

/-- Trip `k` of the pipeline, at the words before it. -/
abbrev trip (k : Trip) : Prog (TpuEff nD τ sig (Elt F) Λ₀ .tc) (BitVec 32 × BitVec 32 × BitVec 32 × BitVec 32 × BitVec 32) :=
  k0_t1_body (F := F) xM (Memref.isWhole_whole _) (Memref.whole main_arg1) (Memref.isWhole_whole _)
    (Memref.whole main_arg2) (Memref.isWhole_whole _) oM (Memref.isWhole_whole _)
    (Memref.whole cc0_scratch0) (Memref.isWhole_whole _) (Memref.whole cc0_scratch1) (Memref.isWhole_whole _)
    wmM (Memref.isWhole_whole _) bmM (Memref.isWhole_whole _) cc0_scratch4 cc0_scratch5
    ibM (Memref.isWhole_whole _) cc0_scoped1 obM (Memref.isWhole_whole _) cc0_scoped3 0#32 1#32 k (accAt k.val)

/-- The first trip: block 1 is copied in, block 0 waited for, multiplied, and copied out. -/
theorem firstTrip (k : Trip) (h0 : k.val = 0) (h1 : k.val < 31) :
    iprop(homeP c X (Ring.bk 32 (k.val + 1))
      ∗ inInfl c X (Ring.sl 2 k.val) (Ring.bk 32 k.val)
      ∗ inFree c (Ring.sl 2 (k.val + 1))
      ∗ outAhead c (Ring.bk 32 k.val)
      ∗ outFree c (Ring.sl 2 k.val)
      ∗ rest c Wm Bm)
    ⊢ wp frame (wpE (defs₀ (F := F)) 𝒱₀ (c : Thread nD τ) none) Set.univ (trip (F := F) k) fun acc =>
      iprop(⌜acc = accAt (k.val + 1)⌝
        ∗ homeP c X (Ring.bk 32 k.val)
        ∗ inInfl c X (Ring.sl 2 (k.val + 1)) (Ring.bk 32 (k.val + 1))
        ∗ inFree c (Ring.sl 2 k.val)
        ∗ outInfl c X Wm Bm (Ring.sl 2 k.val) (Ring.bk 32 k.val)
        ∗ rest c Wm Bm) := by
  unfold inInfl inFree outAhead outFree outInfl rest
  have hc1 : k0_cond1 k (wIx k.val) = 1#1 := (cond1_eq k).2 h1
  have hc7 : ¬ k0_cond7 k (wIx k.val) = 1#1 := fun h => by have := (cond7_eq k).1 h; omega
  have hc2 : k0_cond2 k (wIx k.val) = 1#1 := cond2_eq k
  have hc5 : k0_cond5 k (wIx k.val) = 1#1 := cond5_eq k
  have hw1 := chk1_at k
  have hw2 := chk2_at k
  have hw3 := chk3_at k
  iintro ⟨HX, ⟨%f0, HI⟩, ⟨⟨%f1, HS⟩, HC⟩, ⟨%g, HG⟩, ⟨⟨%h, HO⟩, HD⟩, ⟨HW, HB, ⟨%W, Howes⟩⟩⟩
  dsimp only [trip]
  sl_unfold [k0_t1_body]
  sl_exec
  sl_step
  isplitr
  · ipureintro
    sl_unfold_run_names
    clear * - h0 h1
    revert k
    decide +kernel
  isplitl [HI_src]; · iexact HI_src
  isplitl [HC]; · iexists f1; iexact HC
  isplitl [HI_dst HI]
  · isplitl [HI_dst]; · iexists _; iexact HI_dst
    iexact HI
  isplitl [HD]
  · iexists _, _
    isplitr
    rotate_left
    · iexact HD
    · ipureintro
      sl_unfold_run_names
      exact outV_landed c X Wm Bm (off9_eq k) (off10_eq k) _ _ _ _
  isplitl [HW]; · iexact HW
  isplitl [HB]; · iexact HB
  iexists _; iexact Howes

/-- A trip between: block `k + 1` is copied in, block `k` waited for, multiplied and copied out, block `k - 1`'s copy out
    waited for. -/
theorem midTrip (k : Trip) (h0 : 0 < k.val) (h1 : k.val < 31) :
    iprop(homeP c X (Ring.bk 32 (k.val + 1))
      ∗ inInfl c X (Ring.sl 2 k.val) (Ring.bk 32 k.val)
      ∗ inFree c (Ring.sl 2 (k.val + 1))
      ∗ outAhead c (Ring.bk 32 k.val)
      ∗ outFree c (Ring.sl 2 k.val)
      ∗ outInfl c X Wm Bm (Ring.sl 2 (k.val + 1)) (Ring.bk 32 (k.val - 1))
      ∗ rest c Wm Bm)
    ⊢ wp frame (wpE (defs₀ (F := F)) 𝒱₀ (c : Thread nD τ) none) Set.univ (trip (F := F) k) fun acc =>
      iprop(⌜acc = accAt (k.val + 1)⌝
        ∗ homeP c X (Ring.bk 32 k.val)
        ∗ inInfl c X (Ring.sl 2 (k.val + 1)) (Ring.bk 32 (k.val + 1))
        ∗ inFree c (Ring.sl 2 k.val)
        ∗ outInfl c X Wm Bm (Ring.sl 2 k.val) (Ring.bk 32 k.val)
        ∗ outBehind c X Wm Bm (Ring.bk 32 (k.val - 1))
        ∗ outFree c (Ring.sl 2 (k.val + 1))
        ∗ rest c Wm Bm) := by
  unfold inInfl inFree outAhead outFree outInfl outBehind rest
  have hc1 : k0_cond1 k (wIx k.val) = 1#1 := (cond1_eq k).2 h1
  have hc7 : k0_cond7 k (wIx k.val) = 1#1 := (cond7_eq k).2 h0
  have hc2 : k0_cond2 k (wIx k.val) = 1#1 := cond2_eq k
  have hc5 : k0_cond5 k (wIx k.val) = 1#1 := cond5_eq k
  have hw1 := chk1_at k
  have hw2 := chk2_at k
  have hw3 := chk3_at k
  iintro ⟨HX, ⟨%f0, HI⟩, ⟨⟨%f1, HS⟩, HC⟩, ⟨%g, HG⟩, ⟨⟨%h, HO⟩, HD⟩, ⟨%fd, %fs, %hfd, HF⟩, ⟨HW, HB, ⟨%W, Howes⟩⟩⟩
  dsimp only [trip]
  sl_unfold [k0_t1_body]
  sl_exec
  sl_step
  isplitr
  · ipureintro
    sl_unfold_run_names
    clear * - h0 h1
    revert k
    decide +kernel
  isplitl [HI_src]; · iexact HI_src
  isplitl [HC]; · iexists f1; iexact HC
  isplitl [HI_dst HI]
  · isplitl [HI_dst]; · iexists _; iexact HI_dst
    iexact HI
  isplitl [HD]
  · iexists _, _
    isplitr
    rotate_left
    · iexact HD
    · ipureintro
      sl_unfold_run_names
      exact outV_landed c X Wm Bm (off9_eq k) (off10_eq k) _ _ _ _
  isplitl [HF_dst]
  · iexists fd
    isplitr; · ipureintro; exact hfd
    iexact HF_dst
  isplitl [HF_src HF]
  · isplitl [HF_src]; · iexists _; iexact HF_src
    iexact HF
  isplitl [HW]; · iexact HW
  isplitl [HB]; · iexact HB
  iexists _; iexact Howes

/-- The last trip: nothing more is copied in. -/
theorem lastTrip (k : Trip) (h0 : 0 < k.val) (h1 : k.val = 31) :
    iprop(inInfl c X (Ring.sl 2 k.val) (Ring.bk 32 k.val)
      ∗ outAhead c (Ring.bk 32 k.val)
      ∗ outFree c (Ring.sl 2 k.val)
      ∗ outInfl c X Wm Bm (Ring.sl 2 (k.val + 1)) (Ring.bk 32 (k.val - 1))
      ∗ rest c Wm Bm)
    ⊢ wp frame (wpE (defs₀ (F := F)) 𝒱₀ (c : Thread nD τ) none) Set.univ (trip (F := F) k) fun acc =>
      iprop(⌜acc = accAt (k.val + 1)⌝
        ∗ homeP c X (Ring.bk 32 k.val)
        ∗ inFree c (Ring.sl 2 k.val)
        ∗ outInfl c X Wm Bm (Ring.sl 2 k.val) (Ring.bk 32 k.val)
        ∗ outBehind c X Wm Bm (Ring.bk 32 (k.val - 1))
        ∗ outFree c (Ring.sl 2 (k.val + 1))
        ∗ rest c Wm Bm) := by
  unfold inInfl inFree outAhead outFree outInfl outBehind rest
  have hc1 : ¬ k0_cond1 k (wIx k.val) = 1#1 := fun h => by have := (cond1_eq k).1 h; omega
  have hc7 : k0_cond7 k (wIx k.val) = 1#1 := (cond7_eq k).2 h0
  have hc2 : k0_cond2 k (wIx k.val) = 1#1 := cond2_eq k
  have hc5 : k0_cond5 k (wIx k.val) = 1#1 := cond5_eq k
  have hw1 := chk1_at k
  have hw2 := chk2_at k
  have hw3 := chk3_at k
  iintro ⟨⟨%f0, HI⟩, ⟨%g, HG⟩, ⟨⟨%h, HO⟩, HD⟩, ⟨%fd, %fs, %hfd, HF⟩, ⟨HW, HB, ⟨%W, Howes⟩⟩⟩
  dsimp only [trip]
  sl_unfold [k0_t1_body]
  sl_exec
  sl_step
  isplitr
  · ipureintro
    sl_unfold_run_names
    clear * - h0 h1
    revert k
    decide +kernel
  isplitl [HI_src]; · iexact HI_src
  isplitl [HI_dst HI]
  · isplitl [HI_dst]; · iexists _; iexact HI_dst
    iexact HI
  isplitl [HD]
  · iexists _, _
    isplitr
    rotate_left
    · iexact HD
    · ipureintro
      sl_unfold_run_names
      exact outV_landed c X Wm Bm (off9_eq k) (off10_eq k) _ _ _ _
  isplitl [HF_dst]
  · iexists fd
    isplitr; · ipureintro; exact hfd
    iexact HF_dst
  isplitl [HF_src HF]
  · isplitl [HF_src]; · iexists _; iexact HF_src
    iexact HF
  isplitl [HW]; · iexact HW
  isplitl [HB]; · iexact HB
  iexists _; iexact Howes

end Trip

end Cert.Pipe
-- ==== Proof.Loop.lean ====
/-
  The loop's invariant, and that each trip keeps it: the first trip, a trip between and the last are `Trip.lean`'s.
-/
module

public import proofs.«01_k».proof.Proof.Trip

@[expose] public section

noncomputable section

namespace Cert.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Inv
variable (c : Dev nD) (X : Buf (Elt F) (xM.view.loc (c : Thread nD τ)))
  (Wm : Buf (Elt F) (wmM.view.loc (c : Thread nD τ))) (Bm : Buf (Elt F) (bmM.view.loc (c : Thread nD τ)))

/-- The blocks of the result and its two slots before trip `k`. -/
abbrev ring (k : Nat) : sProp 𝕄 := Ring.AtB 1 (outFree c) (outInfl c X Wm Bm) (outAhead c) (outBehind c X Wm Bm) k

/-- Before trip `k`: the words are trip `k`'s; every block of the input but the one on its way in is home; slot `k` is being
    filled with block `k` (after the last trip it is free), the other slot is free; the result's blocks and slots as `ring`
    has them. -/
def inv (k : Nat) (acc : BitVec 32 × BitVec 32 × BitVec 32 × BitVec 32 × BitVec 32) : sProp 𝕄 :=
  iprop(⌜acc = accAt k⌝ ∗ bigSep (Ring.homeSet (NB := 32) 1 k) (homeP c X)
    ∗ Ring.roleAt (NB := 32) (inFree c (Ring.sl 2 k)) (inInfl c X (Ring.sl 2 k)) k
    ∗ inFree c (Ring.sl 2 (k + 1)) ∗ ring c X Wm Bm k ∗ rest c Wm Bm)

/-- The blocks home before a trip that copies one in: that block, and the others. -/
theorem homes_out (k : Nat) (h : k + 1 < 32) :
    bigSep (Ring.homeSet (NB := 32) 1 k) (homeP (F := F) c X)
      = iprop(homeP c X (Ring.bk 32 (k + 1)) ∗ bigSep ((Ring.homeSet (NB := 32) 1 k).erase (Ring.bk 32 (k + 1))) (homeP c X)) := by
  conv_lhs => rw [Ring.homeSet_out 1 k h, bigSep_insert (Ring.bkL_not_mem_erase 1 k)]
  rfl

/-- The blocks home after such a trip: the block it waited for, and the others. -/
theorem homes_in (k : Nat) (h : k + 1 < 32) :
    bigSep (Ring.homeSet (NB := 32) 1 (k + 1)) (homeP (F := F) c X)
      = iprop(homeP c X (Ring.bk 32 k) ∗ bigSep ((Ring.homeSet (NB := 32) 1 k).erase (Ring.bk 32 (k + 1))) (homeP c X)) := by
  conv_lhs => rw [Ring.homeSet_succ 1 k h, bigSep_insert (Ring.bk_not_mem_erase 1 k (by omega) (by omega))]
  rfl

/-- The blocks home after the last trip. -/
theorem homes_last (k : Nat) (h : k = 31) :
    bigSep (Ring.homeSet (NB := 32) 1 (k + 1)) (homeP (F := F) c X)
      = iprop(homeP c X (Ring.bk 32 k) ∗ bigSep (Ring.homeSet (NB := 32) 1 k) (homeP c X)) := by
  conv_lhs => rw [Ring.homeSet_succ_tail 1 k (by omega) (by omega), bigSep_insert (Ring.bk_not_mem_homeSet 1 k (by omega) (by omega))]
  rfl

/-- The first trip keeps the invariant. -/
theorem inv_first (k : Trip) (h0 : k.val = 0) (h1 : k.val < 31) :
    inv c X Wm Bm k.val (accAt k.val)
      ⊢ wp frame (wpE (defs₀ (F := F)) 𝒱₀ (c : Thread nD τ) none) Set.univ (trip (F := F) k) (inv c X Wm Bm (k.val + 1)) := by
  have eh : inv c X Wm Bm k.val (accAt k.val) = iprop(⌜accAt k.val = accAt k.val⌝ ∗ (homeP c X (Ring.bk 32 (k.val + 1)) ∗ bigSep ((Ring.homeSet (NB := 32) 1 k.val).erase (Ring.bk 32 (k.val + 1))) (homeP c X))
      ∗ inInfl c X (Ring.sl 2 k.val) (Ring.bk 32 k.val) ∗ inFree c (Ring.sl 2 (k.val + 1)) ∗ ((outAhead c (Ring.bk 32 k.val) ∗ bigSep (Ring.aheadSet (k.val + 1)) (outAhead c)) ∗ outFree c (Ring.sl 2 k.val) ∗ outFree c (Ring.sl 2 (k.val + 1))) ∗ rest c Wm Bm) := by
    unfold inv ring
    rw [homes_out c X k.val (by omega), Ring.roleAt_of_lt _ _ k.val (by omega), Ring.AtB2_zero' _ _ _ _ _ k.val h0]
  have en : ∀ acc, inv c X Wm Bm (k.val + 1) acc = iprop(⌜acc = accAt (k.val + 1)⌝ ∗ (homeP c X (Ring.bk 32 k.val) ∗ bigSep ((Ring.homeSet (NB := 32) 1 k.val).erase (Ring.bk 32 (k.val + 1))) (homeP c X))
      ∗ inInfl c X (Ring.sl 2 (k.val + 1)) (Ring.bk 32 (k.val + 1)) ∗ inFree c (Ring.sl 2 k.val) ∗ (bigSep (Ring.aheadSet (k.val + 1)) (outAhead c) ∗ outFree c (Ring.sl 2 (k.val + 1)) ∗ outInfl c X Wm Bm (Ring.sl 2 k.val) (Ring.bk 32 k.val)) ∗ rest c Wm Bm) := by
    intro acc
    unfold inv ring
    rw [homes_in c X k.val (by omega), Ring.roleAt_of_lt _ _ (k.val + 1) (by omega), show Ring.sl 2 (k.val + 1 + 1) = Ring.sl 2 k.val from Ring.sl_add 2 k.val, Ring.AtB21_next_zero' _ _ _ _ k.val h0]
  rw [eh, show inv c X Wm Bm (k.val + 1) = _ from funext en]
  iintro ⟨-, ⟨Hx, Hh⟩, Hi, Hf, ⟨⟨Ha, Has⟩, Hof, Hog⟩, Hr⟩
  iapply (wp_wand_r Idealize.ShloMosaic.frame (wpE (defs₀ (F := F)) 𝒱₀ (c : Thread nD τ) none) Set.univ)
  isplitl [Hx Hi Hf Ha Hof Hr]
  · iapply (firstTrip c X Wm Bm k h0 h1)
    isplitl [Hx]; · iexact Hx
    isplitl [Hi]; · iexact Hi
    isplitl [Hf]; · iexact Hf
    isplitl [Ha]; · iexact Ha
    isplitl [Hof]; · iexact Hof
    iexact Hr
  iintro %acc ⟨%e, Hx, Hi, Hg, Hoi, Hr⟩
  isplitr; · ipureintro; exact e
  isplitl [Hx Hh]
  · isplitl [Hx]; · iexact Hx
    iexact Hh
  isplitl [Hi]; · iexact Hi
  isplitl [Hg]; · iexact Hg
  isplitl [Has Hog Hoi]
  · isplitl [Has]; · iexact Has
    isplitl [Hog]; · iexact Hog
    iexact Hoi
  iexact Hr

/-- A trip between keeps the invariant. -/
theorem inv_mid (k : Trip) (h0 : 0 < k.val) (h1 : k.val < 31) :
    inv c X Wm Bm k.val (accAt k.val)
      ⊢ wp frame (wpE (defs₀ (F := F)) 𝒱₀ (c : Thread nD τ) none) Set.univ (trip (F := F) k) (inv c X Wm Bm (k.val + 1)) := by
  have eh : inv c X Wm Bm k.val (accAt k.val) = iprop(⌜accAt k.val = accAt k.val⌝ ∗ (homeP c X (Ring.bk 32 (k.val + 1)) ∗ bigSep ((Ring.homeSet (NB := 32) 1 k.val).erase (Ring.bk 32 (k.val + 1))) (homeP c X))
      ∗ inInfl c X (Ring.sl 2 k.val) (Ring.bk 32 k.val) ∗ inFree c (Ring.sl 2 (k.val + 1)) ∗ ((outAhead c (Ring.bk 32 k.val) ∗ bigSep (Ring.aheadSet (k.val + 1)) (outAhead c)) ∗ bigSep (Ring.behindSet 1 k.val) (outBehind c X Wm Bm) ∗ outFree c (Ring.sl 2 k.val) ∗ outInfl c X Wm Bm (Ring.sl 2 (k.val + 1)) (Ring.bk 32 (k.val - 1))) ∗ rest c Wm Bm) := by
    unfold inv ring
    rw [homes_out c X k.val (by omega), Ring.roleAt_of_lt _ _ k.val (by omega), Ring.AtB21_here _ _ _ _ k.val h0 (by omega)]
  have en : ∀ acc, inv c X Wm Bm (k.val + 1) acc = iprop(⌜acc = accAt (k.val + 1)⌝ ∗ (homeP c X (Ring.bk 32 k.val) ∗ bigSep ((Ring.homeSet (NB := 32) 1 k.val).erase (Ring.bk 32 (k.val + 1))) (homeP c X))
      ∗ inInfl c X (Ring.sl 2 (k.val + 1)) (Ring.bk 32 (k.val + 1)) ∗ inFree c (Ring.sl 2 k.val) ∗ (bigSep (Ring.aheadSet (k.val + 1)) (outAhead c) ∗ (outBehind c X Wm Bm (Ring.bk 32 (k.val - 1)) ∗ bigSep (Ring.behindSet 1 k.val) (outBehind c X Wm Bm)) ∗ outFree c (Ring.sl 2 (k.val + 1)) ∗ outInfl c X Wm Bm (Ring.sl 2 k.val) (Ring.bk 32 k.val)) ∗ rest c Wm Bm) := by
    intro acc
    unfold inv ring
    rw [homes_in c X k.val (by omega), Ring.roleAt_of_lt _ _ (k.val + 1) (by omega), show Ring.sl 2 (k.val + 1 + 1) = Ring.sl 2 k.val from Ring.sl_add 2 k.val, Ring.AtB21_next _ _ _ _ k.val h0 (by omega)]
  rw [eh, show inv c X Wm Bm (k.val + 1) = _ from funext en]
  iintro ⟨-, ⟨Hx, Hh⟩, Hi, Hf, ⟨⟨Ha, Has⟩, Hbs, Hof, Hoi⟩, Hr⟩
  iapply (wp_wand_r Idealize.ShloMosaic.frame (wpE (defs₀ (F := F)) 𝒱₀ (c : Thread nD τ) none) Set.univ)
  isplitl [Hx Hi Hf Ha Hof Hoi Hr]
  · iapply (midTrip c X Wm Bm k h0 h1)
    isplitl [Hx]; · iexact Hx
    isplitl [Hi]; · iexact Hi
    isplitl [Hf]; · iexact Hf
    isplitl [Ha]; · iexact Ha
    isplitl [Hof]; · iexact Hof
    isplitl [Hoi]; · iexact Hoi
    iexact Hr
  iintro %acc ⟨%e, Hx, Hi, Hg, Hoi, Hb, Hog, Hr⟩
  isplitr; · ipureintro; exact e
  isplitl [Hx Hh]
  · isplitl [Hx]; · iexact Hx
    iexact Hh
  isplitl [Hi]; · iexact Hi
  isplitl [Hg]; · iexact Hg
  isplitl [Has Hb Hbs Hog Hoi]
  · isplitl [Has]; · iexact Has
    isplitl [Hb Hbs]
    · isplitl [Hb]; · iexact Hb
      iexact Hbs
    isplitl [Hog]; · iexact Hog
    iexact Hoi
  iexact Hr

/-- The last trip keeps the invariant. -/
theorem inv_last (k : Trip) (h0 : 0 < k.val) (h1 : k.val = 31) :
    inv c X Wm Bm k.val (accAt k.val)
      ⊢ wp frame (wpE (defs₀ (F := F)) 𝒱₀ (c : Thread nD τ) none) Set.univ (trip (F := F) k) (inv c X Wm Bm (k.val + 1)) := by
  have eh : inv c X Wm Bm k.val (accAt k.val) = iprop(⌜accAt k.val = accAt k.val⌝ ∗ bigSep (Ring.homeSet (NB := 32) 1 k.val) (homeP c X)
      ∗ inInfl c X (Ring.sl 2 k.val) (Ring.bk 32 k.val) ∗ inFree c (Ring.sl 2 (k.val + 1)) ∗ ((outAhead c (Ring.bk 32 k.val) ∗ bigSep (Ring.aheadSet (k.val + 1)) (outAhead c)) ∗ bigSep (Ring.behindSet 1 k.val) (outBehind c X Wm Bm) ∗ outFree c (Ring.sl 2 k.val) ∗ outInfl c X Wm Bm (Ring.sl 2 (k.val + 1)) (Ring.bk 32 (k.val - 1))) ∗ rest c Wm Bm) := by
    unfold inv ring
    rw [Ring.roleAt_of_lt _ _ k.val (by omega), Ring.AtB21_here _ _ _ _ k.val h0 (by omega)]
  have en : ∀ acc, inv c X Wm Bm (k.val + 1) acc = iprop(⌜acc = accAt (k.val + 1)⌝ ∗ (homeP c X (Ring.bk 32 k.val) ∗ bigSep (Ring.homeSet (NB := 32) 1 k.val) (homeP c X))
      ∗ inFree c (Ring.sl 2 (k.val + 1)) ∗ inFree c (Ring.sl 2 k.val) ∗ (bigSep (Ring.aheadSet (k.val + 1)) (outAhead c) ∗ (outBehind c X Wm Bm (Ring.bk 32 (k.val - 1)) ∗ bigSep (Ring.behindSet 1 k.val) (outBehind c X Wm Bm)) ∗ outFree c (Ring.sl 2 (k.val + 1)) ∗ outInfl c X Wm Bm (Ring.sl 2 k.val) (Ring.bk 32 k.val)) ∗ rest c Wm Bm) := by
    intro acc
    unfold inv ring
    rw [homes_last c X k.val h1, Ring.roleAt_of_le _ _ (k.val + 1) (by omega), show Ring.sl 2 (k.val + 1 + 1) = Ring.sl 2 k.val from Ring.sl_add 2 k.val, Ring.AtB21_next _ _ _ _ k.val h0 (by omega)]
  rw [eh, show inv c X Wm Bm (k.val + 1) = _ from funext en]
  iintro ⟨-, Hh, Hi, Hf, ⟨⟨Ha, Has⟩, Hbs, Hof, Hoi⟩, Hr⟩
  iapply (wp_wand_r Idealize.ShloMosaic.frame (wpE (defs₀ (F := F)) 𝒱₀ (c : Thread nD τ) none) Set.univ)
  isplitl [Hi Ha Hof Hoi Hr]
  · iapply (lastTrip c X Wm Bm k h0 h1)
    isplitl [Hi]; · iexact Hi
    isplitl [Ha]; · iexact Ha
    isplitl [Hof]; · iexact Hof
    isplitl [Hoi]; · iexact Hoi
    iexact Hr
  iintro %acc ⟨%e, Hx, Hg, Hoi, Hb, Hog, Hr⟩
  isplitr; · ipureintro; exact e
  isplitl [Hx Hh]
  · isplitl [Hx]; · iexact Hx
    iexact Hh
  isplitl [Hf]; · iexact Hf
  isplitl [Hg]; · iexact Hg
  isplitl [Has Hb Hbs Hog Hoi]
  · isplitl [Has]; · iexact Has
    isplitl [Hb Hbs]
    · isplitl [Hb]; · iexact Hb
      iexact Hbs
    isplitl [Hog]; · iexact Hog
    iexact Hoi
  iexact Hr

/-- Every trip keeps the invariant. -/
theorem inv_trip (k : Trip) (acc : BitVec 32 × BitVec 32 × BitVec 32 × BitVec 32 × BitVec 32) :
    inv c X Wm Bm k.val acc
      ⊢ wp frame (wpE (defs₀ (F := F)) 𝒱₀ (c : Thread nD τ) none) Set.univ
          (k0_t1_body (F := F) xM (Memref.isWhole_whole _) (Memref.whole main_arg1) (Memref.isWhole_whole _)
            (Memref.whole main_arg2) (Memref.isWhole_whole _) oM (Memref.isWhole_whole _)
            (Memref.whole cc0_scratch0) (Memref.isWhole_whole _) (Memref.whole cc0_scratch1) (Memref.isWhole_whole _)
            wmM (Memref.isWhole_whole _) bmM (Memref.isWhole_whole _) cc0_scratch4 cc0_scratch5
            ibM (Memref.isWhole_whole _) cc0_scoped1 obM (Memref.isWhole_whole _) cc0_scoped3 0#32 1#32 k acc)
          (inv c X Wm Bm (k.val + 1)) := by
  by_cases e : acc = accAt k.val
  · subst e
    have hk := trip_lt k
    rcases Nat.lt_trichotomy k.val 31 with h | h | h
    · rcases Nat.eq_zero_or_pos k.val with h0 | h0
      · exact inv_first c X Wm Bm k h0 h
      · exact inv_mid c X Wm Bm k h0 h
    · exact inv_last c X Wm Bm k (by omega) h
    · omega
  · unfold inv
    iintro ⟨%e', -⟩
    exact absurd e' e

end Inv

end Cert.Pipe
-- ==== Proof.Body.lean ====
/-
  The kernel's body: the weights and the bias are copied in and averaged, block 0 of the input is copied in, the loop runs by its
  invariant, and the last block's copy out is waited for.
-/
module

public import proofs.«01_k».proof.Proof.Loop
public import Idealize.ShloMosaic.Lib.VecWindow
public import Idealize.ShloMosaic.Lib.Ring.WriteBehind

@[expose] public section

noncomputable section

namespace Cert.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The kernel at its whole buffers. -/
abbrev bodyG : Prog (TpuEff nD τ sig (Elt F) Λ₀ .tc) PUnit :=
  cc0__outer (F := F) xM (Memref.isWhole_whole _) (Memref.whole main_arg1) (Memref.isWhole_whole _)
    (Memref.whole main_arg2) (Memref.isWhole_whole _) oM (Memref.isWhole_whole _)
    (Memref.whole cc0_scratch0) (Memref.isWhole_whole _) (Memref.whole cc0_scratch1) (Memref.isWhole_whole _)
    wmM (Memref.isWhole_whole _) bmM (Memref.isWhole_whole _) cc0_scratch4 cc0_scratch5
    ibM (Memref.isWhole_whole _) cc0_scoped1 obM (Memref.isWhole_whole _) cc0_scoped3

section Body
variable (c : Dev nD) (X : Buf (Elt F) (xM.view.loc (c : Thread nD τ)))
  (Wf : Buf (Elt F) ((Memref.whole main_arg1).view.loc (c : Thread nD τ))) (bf : Buf (Elt F) ((Memref.whole main_arg2).view.loc (c : Thread nD τ)))

abbrev bufP {sp : Space} {s : Shape} {e : EltTy} (M : Memref sig .tc sp s e) (f : Buf (Elt F) (M.view.loc (c : Thread nD τ))) : sProp 𝕄 :=
  M.view.loc (c : Thread nD τ) ↦[M.view.set]{fullShare} f

abbrev wcell : sProp 𝕄 := semVal ((c : Thread nD τ), SemLoc.dma cc0_scratch4.sem) 0
abbrev bcell : sProp 𝕄 := semVal ((c : Thread nD τ), SemLoc.dma cc0_scratch5.sem) 0

/-- What slab `r` of the weights reads. -/
abbrev wSlab (r : Nat) (h : ∀ a, (![r, 0, 0] : Fin 3 → Nat) a + S1x4096x64.size a ≤ S4x4096x64.size a) : FVec F S1x4096x64 .f32 :=
  (Memref.whole main_arg1).view.readAt (Elt F) (Rect.unit (s := S4x4096x64) ![r, 0, 0] S1x4096x64.size h).toLoadRect Wf
/-- What row `r` of the bias reads. -/
abbrev bRow (r : Nat) (h : ∀ a, (![r, 0] : Fin 2 → Nat) a + S1x64.size a ≤ S4x64.size a) : FVec F S1x64 .f32 :=
  (Memref.whole main_arg2).view.readAt (Elt F) (Rect.unit (s := S4x64) ![r, 0] S1x64.size h).toLoadRect bf

/-- The averaged weights. -/
def wAvg : FVec F S4096x64 .f32 :=
  mulf (addf (addf (addf
    (shapeCast S4096x64 (wSlab c Wf 0 inb_S4x4096x64_S1x4096x64_0_0_0) shapeCasts_S1x4096x64_S4096x64)
    (shapeCast S4096x64 (wSlab c Wf 1 inb_S4x4096x64_S1x4096x64_1_0_0) shapeCasts_S1x4096x64_S4096x64))
    (shapeCast S4096x64 (wSlab c Wf 2 inb_S4x4096x64_S1x4096x64_2_0_0) shapeCasts_S1x4096x64_S4096x64))
    (shapeCast S4096x64 (wSlab c Wf 3 inb_S4x4096x64_S1x4096x64_3_0_0) shapeCasts_S1x4096x64_S4096x64))
    (broadcast S4096x64 (Scalar.ofBits .f32 0x3E800000#32))

/-- The averaged bias, as one row. -/
def bAvg : FVec F S1x64 .f32 :=
  shapeCast S1x64 (mulf (addf (addf (addf
    (shapeCast S64 (bRow c bf 0 inb_S4x64_S1x64_0_0) shapeCasts_S1x64_S64)
    (shapeCast S64 (bRow c bf 1 inb_S4x64_S1x64_1_0) shapeCasts_S1x64_S64))
    (shapeCast S64 (bRow c bf 2 inb_S4x64_S1x64_2_0) shapeCasts_S1x64_S64))
    (shapeCast S64 (bRow c bf 3 inb_S4x64_S1x64_3_0) shapeCasts_S1x64_S64))
    (broadcast S64 (Scalar.ofBits .f32 0x3E800000#32))) shapeCasts_S64_S1x64

/-- Block `b` of the result, from the arguments. -/
def outVal (b : Fin 32) : FVec F S1024x64 .f32 :=
  addf (matmul dot_S1024x4096_S4096x64_S1024x64_1_0_0_1_n_n none ((xblk b).view.read (Elt F) X) (wAvg c Wf)
      (constant S1024x64 .f32 0x00000000#32))
    (broadcastTo S1024x64 (bAvg c bf) broadcasts_S1x64_S1024x64)

/-- A block of the result written: it reads `outVal`. -/
def outDone (b : Fin 32) : sProp 𝕄 := iprop(∃ f, ⌜(oblk b).view.read (Elt F) f = outVal c X Wf bf b⌝ ∗ oblkP c b f)

/-- A copied buffer, loaded, reads what its source reads. -/
theorem copied_w (r : Nat) (h) (f) :
    (Memref.whole cc0_scratch0).view.readAt (Elt F) (Rect.unit (s := S4x4096x64) ![r, 0, 0] S1x4096x64.size h).toLoadRect
      ((Memref.whole cc0_scratch0).view.writes (Elt F) f
        [⟨Rect.whole S4x4096x64, ReadAs.same.apply ((Memref.whole main_arg1).view.read (Elt F) Wf)⟩]) = wSlab c Wf r h := by
  funext j
  exact congrFun (View.read_writes_whole (Memref.whole cc0_scratch0).view f _) _
theorem copied_b (r : Nat) (h) (f) :
    (Memref.whole cc0_scratch1).view.readAt (Elt F) (Rect.unit (s := S4x64) ![r, 0] S1x64.size h).toLoadRect
      ((Memref.whole cc0_scratch1).view.writes (Elt F) f
        [⟨Rect.whole S4x64, ReadAs.same.apply ((Memref.whole main_arg2).view.read (Elt F) bf)⟩]) = bRow c bf r h := by
  funext j
  exact congrFun (View.read_writes_whole (Memref.whole cc0_scratch1).view f _) _

/-- The averaged weights' buffer reads the averaged weights. -/
theorem wm_stored (f v0 v2 v5 v8)
    (h0 : v0 = wSlab c Wf 0 inb_S4x4096x64_S1x4096x64_0_0_0) (h2 : v2 = wSlab c Wf 1 inb_S4x4096x64_S1x4096x64_1_0_0)
    (h5 : v5 = wSlab c Wf 2 inb_S4x4096x64_S1x4096x64_2_0_0) (h8 : v8 = wSlab c Wf 3 inb_S4x4096x64_S1x4096x64_3_0_0) :
    wmM.view.readAt (Elt F) (Rect.unit (s := S4096x64) ![0, 0] S4096x64.size inb_S4096x64_S4096x64_0_0).toLoadRect
      (wmM.view.writes (Elt F) f [⟨Rect.unit (s := S4096x64) ![0, 0] S4096x64.size inb_S4096x64_S4096x64_0_0, k0_pay2 v0 v2 v5 v8⟩])
      = wAvg c Wf := by
  subst h0 h2 h5 h8
  refine (View.readAt_writes_full wmM.view f _ _ _ []).trans ?_
  dsimp only [k0_pay2]
  exact shapeCast_self _ _

/-- A row stored in every row of the bias' buffer: row 0 reads it. -/
theorem row_stored (f) (v : FVec F S1x64 .f32) :
    bmM.view.readAt (Elt F) (Rect.unit (s := S8x64) ![0, 0] S1x64.size inb_S8x64_S1x64_0_0).toLoadRect
      (bmM.view.writes (Elt F) f [⟨Rect.unit (s := S8x64) ![0, 0] S8x64.size inb_S8x64_S8x64_0_0,
        shapeCast S8x64 (broadcastTo S8x64 v broadcasts_S1x64_S8x64) shapeCasts_S8x64_S8x64⟩]) = v := by
  funext j
  rw [View.readAt_apply]
  refine (congrFun (View.read_writes_full bmM.view f _ _ []) _).trans ?_
  rw [shapeCast_self]
  refine broadcastTo_apply v _ _ j fun a => ?_
  match a with
  | ⟨0, _⟩ => exact Nat.lt_one_iff.mp (j 0).isLt
  | ⟨1, _⟩ => show (j 1).val = 0 + 1 * (j 1).val; omega

/-- Row 0 of the averaged bias' buffer reads the averaged bias. -/
theorem bm_stored (f v0 v2 v5 v8)
    (h0 : v0 = bRow c bf 0 inb_S4x64_S1x64_0_0) (h2 : v2 = bRow c bf 1 inb_S4x64_S1x64_1_0)
    (h5 : v5 = bRow c bf 2 inb_S4x64_S1x64_2_0) (h8 : v8 = bRow c bf 3 inb_S4x64_S1x64_3_0) :
    bmM.view.readAt (Elt F) (Rect.unit (s := S8x64) ![0, 0] S1x64.size inb_S8x64_S1x64_0_0).toLoadRect
      (bmM.view.writes (Elt F) f [⟨Rect.unit (s := S8x64) ![0, 0] S8x64.size inb_S8x64_S8x64_0_0, k0_pay4 (k0_pay3 v0 v2 v5 v8)⟩])
      = bAvg c bf := by
  subst h0 h2 h5 h8
  exact row_stored f (bAvg c bf)

/-- What the body is handed. -/
def PRE : sProp 𝕄 :=
  iprop(bigSep Finset.univ (homeP c X) ∗ bufP c (Memref.whole main_arg1) Wf ∗ bufP c (Memref.whole main_arg2) bf
    ∗ Ring.AtB₀ (outFree c) (outAhead (F := F) c)
    ∗ (∃ f, bufP c (Memref.whole cc0_scratch0) f) ∗ (∃ f, bufP c (Memref.whole cc0_scratch1) f) ∗ (∃ f, bufP c wmM f) ∗ (∃ f, bufP c bmM f)
    ∗ inFree c 0 ∗ inFree c 1 ∗ wcell c ∗ bcell c ∗ ∃ W, owes (c : Thread nD τ) 0 W)

/-- What it hands back. -/
def POST : sProp 𝕄 :=
  iprop(bigSep Finset.univ (homeP c X) ∗ bufP c (Memref.whole main_arg1) Wf ∗ bufP c (Memref.whole main_arg2) bf
    ∗ Ring.AtB₀ (outFree c) (outDone c X Wf bf)
    ∗ (∃ f, bufP c (Memref.whole cc0_scratch0) f) ∗ (∃ f, bufP c (Memref.whole cc0_scratch1) f) ∗ (∃ f, bufP c wmM f) ∗ (∃ f, bufP c bmM f)
    ∗ inFree c 0 ∗ inFree c 1 ∗ wcell c ∗ bcell c ∗ ∃ W, owes (c : Thread nD τ) 0 W)

/-- The blocks of the input: block 0, and the others. -/
theorem homes_split : bigSep Finset.univ (homeP (F := F) c X)
    = iprop(homeP c X (Ring.bk 32 0) ∗ bigSep (Ring.homeSet (NB := 32) 1 0) (homeP c X)) := by
  rw [show (Finset.univ : Finset (Fin 32)) = insert (Ring.bk 32 0) (Ring.homeSet (NB := 32) 1 0) from by decide, bigSep_insert (by decide)]; rfl

theorem sl2_0 : Ring.sl 2 0 = 0 := Fin.ext (by rfl)
theorem sl2_1 : Ring.sl 2 (0 + 1) = 1 := Fin.ext (by rfl)
theorem sl2_32 : Ring.sl 2 32 = 0 := Fin.ext (by rfl)
theorem sl2_33 : Ring.sl 2 (32 + 1) = 1 := Fin.ext (by rfl)
theorem bk32_0 : Ring.bk 32 0 = 0 := Fin.ext (by rfl)
theorem bk32_31 : Ring.bk 32 (32 - 1) = 31 := Fin.ext (by rfl)

/-- The invariant before the first trip, spelt out. -/
theorem inv_zero (Wm Bm) : inv c X Wm Bm 0 (accAt 0)
    = iprop(⌜accAt 0 = accAt 0⌝ ∗ bigSep (Ring.homeSet (NB := 32) 1 0) (homeP c X) ∗ inInfl c X 0 0 ∗ inFree c 1
        ∗ Ring.AtB₀ (outFree c) (outAhead c) ∗ rest c Wm Bm) := by
  unfold inv ring
  rw [Ring.roleAt_of_lt _ _ 0 (by omega), Ring.AtB_zero, sl2_0, sl2_1, bk32_0]

/-- The invariant after the last trip, spelt out. -/
theorem inv_end (Wm Bm acc) : inv c X Wm Bm 32 acc
    = iprop(⌜acc = accAt 32⌝ ∗ bigSep Finset.univ (homeP c X) ∗ inFree c 0 ∗ inFree c 1
        ∗ (bigSep (Ring.behindSet 1 32) (outBehind c X Wm Bm) ∗ outFree c 0 ∗ outInfl c X Wm Bm 1 31) ∗ rest c Wm Bm) := by
  unfold inv ring
  rw [Ring.homeSet_last 1 32 le_rfl, Ring.roleAt_of_le _ _ 32 le_rfl, Ring.AtB21_end' _ _ _ _ 32 rfl (by omega), sl2_32, sl2_33, bk32_31]

/-- Every block written, and both slots free. -/
theorem all_done (Wm : Buf (Elt F) (wmM.view.loc (c : Thread nD τ))) (Bm : Buf (Elt F) (bmM.view.loc (c : Thread nD τ)))
    (hw : wmM.view.readAt (Elt F) (Rect.unit (s := S4096x64) ![0, 0] S4096x64.size inb_S4096x64_S4096x64_0_0).toLoadRect Wm = wAvg c Wf)
    (hb : bmM.view.readAt (Elt F) (Rect.unit (s := S8x64) ![0, 0] S1x64.size inb_S8x64_S1x64_0_0).toLoadRect Bm = bAvg c bf) :
    iprop((outBehind c X Wm Bm 31 ∗ bigSep (Ring.behindSet 1 32) (outBehind c X Wm Bm)) ∗ outFree c 0 ∗ outFree c 1)
      = Ring.AtB₀ (outFree c) (outDone c X Wf bf) := by
  have e : outBehind c X Wm Bm = outDone c X Wf bf := by
    funext b
    unfold outBehind outDone outV outVal
    rw [hw, hb]
  rw [← e]
  have h := Ring.AtB21_epilogue' (outFree c) (outBehind c X Wm Bm) 32 rfl (by omega)
  rw [bk32_31, sl2_32, sl2_33] at h
  exact h.symm

/-- The body. -/
theorem bodyRun (Q : PUnit → sProp 𝕄) :
    iprop(PRE c X Wf bf ∗ (POST c X Wf bf -∗ Q ⟨⟩))
      ⊢ wp frame (wpE (defs₀ (F := F)) 𝒱₀ (c : Thread nD τ) none) Set.univ (bodyG (F := F)) Q := by
  unfold PRE
  rw [homes_split]
  unfold inFree
  iintro ⟨⟨⟨Hx, Hh⟩, HW, Hb, Hr, ⟨%f0, Hs0⟩, ⟨%f1, Hs1⟩, ⟨%f2, Hs2⟩, ⟨%f3, Hs3⟩, ⟨⟨%g0, Hi0⟩, Hic0⟩, ⟨⟨%g1, Hi1⟩, Hic1⟩, Hwc, Hbc, ⟨%W, Howes⟩⟩, Hk⟩
  sl_unfold [bodyG]
  sl_exec
  -- the two averages, by what their buffers read
  have hw : wmM.view.readAt (Elt F) (Rect.unit (s := S4096x64) ![0, 0] S4096x64.size inb_S4096x64_S4096x64_0_0).toLoadRect
      (wmM.view.writes (Elt F) wmM.view.junk (bodyRun.sl.Hs2_1 c Wf)) = wAvg c Wf := by
    sl_unfold_run_names
    exact wm_stored c Wf _ _ _ _ _ (copied_w c Wf _ _ _) (copied_w c Wf _ _ _) (copied_w c Wf _ _ _) (copied_w c Wf _ _ _)
  have hb : bmM.view.readAt (Elt F) (Rect.unit (s := S8x64) ![0, 0] S1x64.size inb_S8x64_S1x64_0_0).toLoadRect
      (bmM.view.writes (Elt F) bmM.view.junk (bodyRun.sl.Hs3_1 c bf)) = bAvg c bf := by
    sl_unfold_run_names
    exact bm_stored c bf _ _ _ _ _ (copied_b c bf _ _ _) (copied_b c bf _ _ _) (copied_b c bf _ _ _) (copied_b c bf _ _ _)
  sl_for (inv c X (wmM.view.writes (Elt F) wmM.view.junk (bodyRun.sl.Hs2_1 c Wf)) (bmM.view.writes (Elt F) bmM.view.junk (bodyRun.sl.Hs3_1 c bf)))
    $$ [Hh Hic0 Hi1 Hic1 Hr Hs2 Hs3 Howes]
  case region =>
    intro k acc
    exact inv_trip c X _ _ k acc
  · iapply (Entails.of_eq (inv_zero c X _ _).symm)
    unfold inInfl inFree rest
    isplitr; · ipureintro; rfl
    isplitl [Hh]; · iexact Hh
    isplitl [Hic0]; · iexists g0; iexact Hic0
    isplitl [Hi1 Hic1]
    · isplitl [Hi1]; · iexists g1; iexact Hi1
      iexact Hic1
    isplitl [Hr]; · iexact Hr
    isplitl [Hs2]; · iexact Hs2
    isplitl [Hs3]; · iexact Hs3
    iexists _; iexact Howes
  rw [show Scf.trips k0_t1_loop.lb k0_t1_loop.ub k0_t1_loop.st = 32 from trips_eq]
  iintro %acc HI
  ihave HI := (Entails.of_eq (inv_end c X _ _ acc)) $$ HI
  unfold outInfl rest
  icases HI with ⟨%e, Hx, Hi0, Hi1, ⟨Hbs, Ho0, ⟨%fd, %fs, %hfd, HF⟩⟩, ⟨Hs2, Hs3, ⟨%W', Howes⟩⟩⟩
  subst e
  have hw4 := chk4_at
  have hw5 := chk5_at
  dsimp only [accAt]
  sl_exec
  sl_step
  iapply Hk
  unfold POST
  isplitl [Hx]; · iexact Hx
  isplitl [HW]; · iexact HW
  isplitl [Hb]; · iexact Hb
  isplitl [Hbs Ho0 HF_dst HF_src HF]
  · iapply (Entails.of_eq (all_done c X Wf bf _ _ hw hb))
    unfold outFree
    isplitl [HF_dst Hbs]
    · isplitl [HF_dst]
      · unfold outBehind
        iexists fd
        isplitr; · ipureintro; exact hfd
        iexact HF_dst
      iexact Hbs
    isplitl [Ho0]; · iexact Ho0
    isplitl [HF_src]; · iexists fs; iexact HF_src
    iexact HF
  isplitl [Hs0]; · iexists _; iexact Hs0
  isplitl [Hs1]; · iexists _; iexact Hs1
  isplitl [Hs2]; · iexists _; iexact Hs2
  isplitl [Hs3]; · iexists _; iexact Hs3
  isplitl [Hi0]; · iexact Hi0
  isplitl [Hi1]; · iexact Hi1
  isplitl [Hwc]; · iexact Hwc
  isplitl [Hbc]; · iexact Hbc
  iexists _; iexact Howes

end Body

end Cert.Pipe
-- ==== Proof.Run.lean ====
/-
  The launch: the arrays cut into their blocks and the pipeline's buffers into their slots, the body's run between, and what
  the memory holds at the end. For any float values.
-/
module

public import proofs.«01_k».proof.Proof.Body
public import proofs.«01_k».proof.Proof.Gen.KernelIdeal.Launch
public import proofs.«01_k».proof.Proof.Gen.KernelIdeal.Points
public import Idealize.ShloMosaic.Lib.Pipeline.KitQuiescent

@[expose] public section

noncomputable section

namespace Cert.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
abbrev EP : Emb (UR sig nD τ) (MT nD τ sig Unit (Elt F) ℕ (UU nD τ) ℕ) := embL

/-! ## The sets of elements: the input's blocks and the result's, the slots -/

abbrev xSet (b : Fin 32) : Finset S32768x4096.Idx := (Rect.unit (s := S32768x4096) (blkOff b) S1024x4096.size (xOff_inb b)).set
abbrev oSet (b : Fin 32) : Finset S32768x64.Idx := (Rect.unit (s := S32768x64) (blkOff b) S1024x64.size (oOff_inb b)).set
abbrev isSet (s : Fin 2) : Finset S2x1024x4096.Idx := (Rect.unit (s := S2x1024x4096) (slotOff s) S1x1024x4096.size (isOff_inb s)).set
abbrev osSet (s : Fin 2) : Finset S2x1024x64.Idx := (Rect.unit (s := S2x1024x64) (slotOff s) S1x1024x64.size (osOff_inb s)).set

theorem xblk_set (b : Fin 32) : (xblk b).view.set = xSet b := View.set_slice_whole _ _
theorem oblk_set (b : Fin 32) : (oblk b).view.set = oSet b := View.set_slice_whole _ _
theorem islot_set (s : Fin 2) : (islot s).view.set = isSet s := (View.set_reshape _ _).trans (View.set_slice_whole _ _)
theorem oslot_set (s : Fin 2) : (oslot s).view.set = osSet s := (View.set_reshape _ _).trans (View.set_slice_whole _ _)

theorem blkOff_zero (b : Fin 32) : blkOff b 0 = 1024 * b.val := rfl
theorem blkOff_one (b : Fin 32) (a : Fin 2) (h : a ≠ 0) : blkOff b a = 0 := by
  match a, h with
  | ⟨0, _⟩, h => exact absurd rfl h
  | ⟨1, _⟩, _ => rfl
theorem slotOff_zero (s : Fin 2) : slotOff s 0 = 1 * s.val := (Nat.one_mul _).symm
theorem slotOff_rest (s : Fin 2) (a : Fin 3) (h : a ≠ 0) : slotOff s a = 0 := by
  match a, h with
  | ⟨0, _⟩, h => exact absurd rfl h
  | ⟨1, _⟩, _ => rfl
  | ⟨2, _⟩, _ => rfl

theorem xSet_disjoint : ∀ b b', b ≠ b' → Disjoint (xSet b) (xSet b') :=
  Ring.lead_disjoint (s := S32768x4096) (0 : Fin 2) 1024 blkOff S1024x4096.size xOff_inb blkOff_zero rfl
theorem xSet_cover : Finset.univ.biUnion xSet = Finset.univ :=
  Ring.lead_cover (s := S32768x4096) (0 : Fin 2) 1024 blkOff S1024x4096.size xOff_inb blkOff_zero blkOff_one rfl (by decide) rfl
theorem oSet_disjoint : ∀ b b', b ≠ b' → Disjoint (oSet b) (oSet b') :=
  Ring.lead_disjoint (s := S32768x64) (0 : Fin 2) 1024 blkOff S1024x64.size oOff_inb blkOff_zero rfl
theorem oSet_cover : Finset.univ.biUnion oSet = Finset.univ :=
  Ring.lead_cover (s := S32768x64) (0 : Fin 2) 1024 blkOff S1024x64.size oOff_inb blkOff_zero blkOff_one rfl (by decide) rfl
theorem isSet_disjoint : ∀ b b', b ≠ b' → Disjoint (isSet b) (isSet b') :=
  Ring.lead_disjoint (s := S2x1024x4096) (0 : Fin 3) 1 slotOff S1x1024x4096.size isOff_inb slotOff_zero rfl
theorem isSet_cover : Finset.univ.biUnion isSet = Finset.univ :=
  Ring.lead_cover (s := S2x1024x4096) (0 : Fin 3) 1 slotOff S1x1024x4096.size isOff_inb slotOff_zero slotOff_rest rfl (by decide) rfl
theorem osSet_disjoint : ∀ b b', b ≠ b' → Disjoint (osSet b) (osSet b') :=
  Ring.lead_disjoint (s := S2x1024x64) (0 : Fin 3) 1 slotOff S1x1024x64.size osOff_inb slotOff_zero rfl
theorem osSet_cover : Finset.univ.biUnion osSet = Finset.univ :=
  Ring.lead_cover (s := S2x1024x64) (0 : Fin 3) 1 slotOff S1x1024x64.size osOff_inb slotOff_zero slotOff_rest rfl (by decide) rfl

section Split
variable (c : Dev nD)

theorem fin2_sep (Φ : Fin 2 → sProp 𝕄) : bigSep Finset.univ Φ = iprop(Φ 0 ∗ Φ 1) :=
  bigSep_univ_eq_bigSepL [(0 : Fin 2), (1 : Fin 2)] (by decide) (by decide) Φ

/-- The input whole is its blocks. -/
theorem x_eq (X : Buf (Elt F) ((c : Thread nD τ).loc main_arg0)) :
    (((c : Thread nD τ).loc main_arg0) ↦{fullShare} X : sProp 𝕄) = bigSep Finset.univ (homeP c X) := by
  rw [Ring.pointsTo_blocks (ℓ := (c : Thread nD τ).loc main_arg0) xSet xSet_disjoint xSet_cover]
  exact bigSep_congr fun b _ => by rw [← xblk_set]; rfl

/-- The result whole is its blocks, none written. -/
theorem o_split (g : Buf (Elt F) ((c : Thread nD τ).loc main_v0)) :
    (((c : Thread nD τ).loc main_v0) ↦{fullShare} g : sProp 𝕄) ⊢ bigSep Finset.univ (outAhead (F := F) c) := by
  rw [Ring.pointsTo_blocks (ℓ := (c : Thread nD τ).loc main_v0) oSet oSet_disjoint oSet_cover]
  have key : ∀ b, (((c : Thread nD τ).loc main_v0) ↦[oSet b]{fullShare} g : sProp 𝕄) ⊢ outAhead (F := F) c b := fun b => by
    rw [← oblk_set]
    unfold outAhead
    iintro H
    iexists g
    iexact H
  exact bigSep_mono fun b _ => key b

/-- The blocks written join to the result whole, which reads in every block what the block read. -/
theorem o_join (X : Buf (Elt F) (xM.view.loc (c : Thread nD τ))) (Wf : Buf (Elt F) ((Memref.whole main_arg1).view.loc (c : Thread nD τ)))
    (bf : Buf (Elt F) ((Memref.whole main_arg2).view.loc (c : Thread nD τ))) (f₀ : Buf (Elt F) ((c : Thread nD τ).loc main_v0)) :
    bigSep Finset.univ (outDone c X Wf bf)
      ⊢ (iprop(∃ g : Buf (Elt F) ((c : Thread nD τ).loc main_v0), ⌜∀ b, (oblk b).view.read (Elt F) g = outVal c X Wf bf b⌝
          ∗ ((c : Thread nD τ).loc main_v0) ↦{fullShare} g) : sProp 𝕄) := by
  have hne : ∀ b : Fin 32, Nonempty (Buf (Elt F) ((oblk b).view.loc (c : Thread nD τ))) := fun _ => ⟨f₀⟩
  unfold outDone
  refine (bigSep_exists_pi Finset.univ _).trans ?_
  iintro ⟨%fs, H⟩
  ihave H := (bigSep_pure_sep Finset.univ _ _) $$ H
  icases H with ⟨%hfs, H⟩
  have e : ∀ b, (oblkP c b (fs b) : sProp 𝕄) = (((c : Thread nD τ).loc main_v0) ↦[oSet b]{fullShare} fs b) := fun b => by rw [← oblk_set]; rfl
  ihave H := (Entails.of_eq (bigSep_congr fun b _ => e b)) $$ H
  ihave H := (pointsTo_biUnion_join Finset.univ oSet fs f₀ (fun b _ b' _ h => oSet_disjoint b b' h)) $$ H
  icases H with ⟨%g, %hg, H⟩
  iexists g
  isplitr
  · ipureintro
    intro b
    rw [← hfs b (Finset.mem_univ b)]
    exact View.read_congr_of_subset (oblk b).view (oSet b) (oblk_set b).le (hg b (Finset.mem_univ b))
  rw [oSet_cover]
  iexact H

/-- The input slots' buffer whole is its two slots, and back. -/
theorem is_split :
    iprop(∃ f : Buf (Elt F) ((c : Thread nD τ).loc cc0_scoped0), ((c : Thread nD τ).loc cc0_scoped0) ↦{fullShare} f)
      ⊢ (iprop((∃ f, islotP c 0 f) ∗ ∃ f, islotP c 1 f) : sProp 𝕄) := by
  iintro ⟨%f, H⟩
  ihave H := (Entails.of_eq ((Ring.pointsTo_blocks (Ix := Unit) (Name := ℕ) (U := UU nD τ) (Lvl := ℕ) (q := fullShare)
    (ℓ := (c : Thread nD τ).loc cc0_scoped0) isSet isSet_disjoint isSet_cover f).trans (fin2_sep _))) $$ H
  rw [← islot_set 0, ← islot_set 1]
  icases H with ⟨H0, H1⟩
  isplitl [H0]; · iexists f; iexact H0
  iexists f; iexact H1
theorem is_join :
    iprop((∃ f, islotP c 0 f) ∗ ∃ f, islotP c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) isSet isSet_disjoint isSet_cover f0)
  irw [fin2_sep]
  rw [← islot_set 0, ← islot_set 1]
  isplitl [H0]; · iexists f0; iexact H0
  iexists f1; iexact H1

/-- The output slots' buffer whole is its two slots, and back. -/
theorem os_split :
    iprop(∃ f : Buf (Elt F) ((c : Thread nD τ).loc cc0_scoped2), ((c : Thread nD τ).loc cc0_scoped2) ↦{fullShare} f)
      ⊢ (iprop((∃ f, oslotP c 0 f) ∗ ∃ f, oslotP c 1 f) : sProp 𝕄) := by
  iintro ⟨%f, H⟩
  ihave H := (Entails.of_eq ((Ring.pointsTo_blocks (Ix := Unit) (Name := ℕ) (U := UU nD τ) (Lvl := ℕ) (q := fullShare)
    (ℓ := (c : Thread nD τ).loc cc0_scoped2) osSet osSet_disjoint osSet_cover f).trans (fin2_sep _))) $$ H
  rw [← oslot_set 0, ← oslot_set 1]
  icases H with ⟨H0, H1⟩
  isplitl [H0]; · iexists f; iexact H0
  iexists f; iexact H1
theorem os_join :
    iprop((∃ f, oslotP c 0 f) ∗ ∃ f, oslotP c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) osSet osSet_disjoint osSet_cover f0)
  irw [fin2_sep]
  rw [← oslot_set 0, ← oslot_set 1]
  isplitl [H0]; · iexists f0; iexact H0
  iexists f1; iexact H1

/-- A whole buffer held through its view. -/
theorem whole_eq (r : Ref sig .tc) (f : Buf (Elt F) ((c : Thread nD τ).loc r)) :
    (bufP c (Memref.whole r) f : sProp 𝕄) = (((c : Thread nD τ).loc r) ↦{fullShare} f) := by
  show (((c : Thread nD τ).loc r) ↦[(View.whole r).set]{fullShare} f : sProp 𝕄) = _
  rw [View.set_whole]

theorem whole_in (r : Ref sig .tc) :
    iprop(∃ f : Buf (Elt F) ((c : Thread nD τ).loc r), ((c : Thread nD τ).loc r) ↦{fullShare} f)
      ⊢ (iprop(∃ f, bufP c (Memref.whole r) f) : sProp 𝕄) := by
  iintro ⟨%f, H⟩
  iexists f
  iapply (Entails.of_eq (whole_eq c r f).symm)
  iexact H
theorem whole_out (r : Ref sig .tc) :
    (iprop(∃ f, bufP c (Memref.whole r) f) : sProp 𝕄)
      ⊢ iprop(∃ f : Buf (Elt F) ((c : Thread nD τ).loc r), ((c : Thread nD τ).loc r) ↦{fullShare} f) := by
  iintro ⟨%f, H⟩
  iexists f
  iapply (Entails.of_eq (whole_eq c r f))
  iexact H

/-! ## The kernel's own semaphores -/

abbrev osem : Fin 6 → SemLoc sig :=
  ![.dma cc0_scratch4.sem, .dma cc0_scratch5.sem, .dma (ism 0).sem, .dma (ism 1).sem, .dma (osm 0).sem, .dma (osm 1).sem]
theorem ownSemFacts : Pipeline.OwnSemFacts (cfgs 0).spec osem := by decide
theorem ownSems0_eq : (Pipeline.ownSems0 (Ix := Unit) (Name := ℕ) (U := UU nD τ) (Lvl := ℕ) (Val := Elt F) (τ := τ) osem c : sProp 𝕄)
    = iprop(wcell c ∗ bcell c ∗ icell c 0 ∗ icell c 1 ∗ ocell c 0 ∗ ocell c 1) := by
  unfold Pipeline.ownSems0
  rw [bigSep_univ_eq_bigSepL [(0 : Fin 6), 1, 2, 3, 4, 5] (by decide) (by decide)]
  rfl

end Split

/-! ## The pipeline's proof data -/

section Launch
variable (m : (ℓ : Loc nD τ sig) → Buf (Elt F) ℓ) (ρ : Dev nD → PrngReg)

/-- Before the body and after it. -/
def Φ (c : Dev nD) (done : Bool) : sProp 𝕄 :=
  iprop(bigSep Finset.univ (homeP c (m ((c : Thread nD τ).loc main_arg0)))
    ∗ bufP c (Memref.whole main_arg1) (m ((c : Thread nD τ).loc main_arg1)) ∗ bufP c (Memref.whole main_arg2) (m ((c : Thread nD τ).loc main_arg2))
    ∗ Ring.AtB₀ (outFree c) (if done then outDone c (m ((c : Thread nD τ).loc main_arg0)) (m ((c : Thread nD τ).loc main_arg1))
        (m ((c : Thread nD τ).loc main_arg2)) else outAhead c)
    ∗ (∃ f, bufP c (Memref.whole cc0_scratch0) f) ∗ (∃ f, bufP c (Memref.whole cc0_scratch1) f) ∗ (∃ f, bufP c wmM f) ∗ (∃ f, bufP c bmM f)
    ∗ inFree c 0 ∗ inFree c 1 ∗ wcell c ∗ bcell c)

def dats (_ : Fin 1) (c : Dev nD) : Dat τ (Elt F) Unit ℕ (UU nD τ) ℕ cfg0 c where
  A w := w.elim0
  after w _ := w.elim0
  Φ t := Φ m c (decide (t.val ≠ 0))
  q _ := fullShare
  owed _ := 0

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

theorem no_windows (Ψ : Fin 0 → sProp 𝕄) : bigSep Finset.univ Ψ = BI.emp := by
  rw [show (Finset.univ : Finset (Fin 0)) = ∅ from rfl, bigSep_empty]

set_option backward.isDefEq.respectTransparency.types false in
theorem body_obligation (c : Dev nD) : BodyObligation (dats (F := F) m 0 c) (defs₀ (F := F)) 𝒱₀ () Set.univ := fun t => by
  have ht : t.val = 0 := by rw [fin_N0 t]; rfl
  rw [no_windows, no_windows]
  rw [show (dats m 0 c).Φ t.castSucc = Φ m c false from by dsimp only [dats]; congr 1; simp [ht],
    show (dats m 0 c).Φ t.succ = Φ m c true from by dsimp only [dats]; congr 1]
  unfold Dat.owesAt Pipeline.owesWithin
  rw [show (dats m 0 c).owed t.castSucc = 0 from rfl, show (dats m 0 c).owed t.succ = 0 from rfl]
  unfold Φ
  rw [if_neg (by decide), if_pos rfl]
  iintro ⟨⟨Hx, HW, Hb, Hr, H0, H1, H2, H3, Hi0, Hi1, Hw, Hbc⟩, ⟨%W, -, HO⟩, He⟩
  sl_rw [prog_eq t]
  iapply (bodyRun c (m ((c : Thread nD τ).loc main_arg0)) (m ((c : Thread nD τ).loc main_arg1)) (m ((c : Thread nD τ).loc main_arg2)))
  isplitl [Hx HW Hb Hr H0 H1 H2 H3 Hi0 Hi1 Hw Hbc HO]
  · unfold PRE
    isplitl [Hx]; · iexact Hx
    isplitl [HW]; · iexact HW
    isplitl [Hb]; · iexact Hb
    isplitl [Hr]; · iexact Hr
    isplitl [H0]; · iexact H0
    isplitl [H1]; · iexact H1
    isplitl [H2]; · iexact H2
    isplitl [H3]; · iexact H3
    isplitl [Hi0]; · iexact Hi0
    isplitl [Hi1]; · iexact Hi1
    isplitl [Hw]; · iexact Hw
    isplitl [Hbc]; · iexact Hbc
    iexists W; iexact HO
  · unfold POST
    iintro ⟨Hx, HW, Hb, Hr, H0, H1, H2, H3, Hi0, Hi1, Hw, Hbc, ⟨%W', HO⟩⟩
    isplitl [Hx HW Hb Hr H0 H1 H2 H3 Hi0 Hi1 Hw Hbc]
    · isplitl [Hx]; · iexact Hx
      isplitl [HW]; · iexact HW
      isplitl [Hb]; · iexact Hb
      isplitl [Hr]; · iexact Hr
      isplitl [H0]; · iexact H0
      isplitl [H1]; · iexact H1
      isplitl [H2]; · iexact H2
      isplitl [H3]; · iexact H3
      isplitl [Hi0]; · iexact Hi0
      isplitl [Hi1]; · iexact Hi1
      isplitl [Hw]; · iexact Hw
      iexact Hbc
    isplitl [HO]
    · iexists W'; isplitr; · ipureintro; exact fun _ _ => Or.inl trivial
      iexact HO
    iexact He

/-! ## The run -/

def intoΦ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_v0) ↦{fullShare} m ((c : Thread nD τ).loc main_v0)) ∗ Pipeline.ownSems0 osem c)
/-- Every block of the result reads what the kernel computes for it from the arguments at launch. -/
def OutOK (c : Dev nD) (g : Buf (Elt F) ((c : Thread nD τ).loc main_v0)) : Prop :=
  ∀ b : Fin 32, (oblk b).view.read (Elt F) g = outVal c (m ((c : Thread nD τ).loc main_arg0)) (m ((c : Thread nD τ).loc main_arg1))
    (m ((c : Thread nD τ).loc main_arg2)) b
def outOfΦ (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ ∃ g, ⌜OutOK m c g⌝ ∗ (((c : Thread nD τ).loc main_v0) ↦{fullShare} g))
def u₀ : UU nD τ := (initOf (Pipeline.cells cfgs cellOf_inj) (Pipeline.launchToks cfgs cellOf_inj), 1)
/-- The arguments unchanged, and the result's blocks as `OutOK` has them. -/
def QY (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ OutOK m c (s.mem ((c : Thread nD τ).loc main_v0))

set_option backward.isDefEq.respectTransparency.types false in
/-- What the launch hands over is what the body starts from. -/
theorem enter (c : Dev nD) : iprop(intoΦ m c ∗ Pipeline.scopedRest (Val := Elt F) (cfgs 0).spec c) ⊢ (dats m 0 c).Φ 0 := by
  rw [scopedRest0_eq, show (dats m 0 c).Φ 0 = Φ m c false from rfl]
  unfold intoΦ Φ Ring.AtB₀ inFree
  rw [ownSems0_eq, x_eq c, if_neg (by decide), fin2_sep]
  unfold outFree
  iintro ⟨⟨Hx, HW, Hb, Ho, Hw, Hbc, Hi0, Hi1, Ho0, Ho1⟩, H0, H1, H2, H3, Hib, Hob⟩
  ihave HW := (Entails.of_eq (whole_eq c main_arg1 _).symm) $$ HW
  ihave Hb := (Entails.of_eq (whole_eq c main_arg2 _).symm) $$ Hb
  ihave H0 := (whole_in c cc0_scratch0) $$ H0
  ihave H1 := (whole_in c cc0_scratch1) $$ H1
  ihave H2 := (whole_in c cc0_scratch2) $$ H2
  ihave H3 := (whole_in c cc0_scratch3) $$ H3
  ihave Hib := (is_split c) $$ Hib
  ihave Hob := (os_split c) $$ Hob
  ihave Ho := (o_split c _) $$ Ho
  icases Hib with ⟨Hs0, Hs1⟩
  icases Hob with ⟨Ht0, Ht1⟩
  isplitl [Hx]; · iexact Hx
  isplitl [HW]; · iexact HW
  isplitl [Hb]; · iexact Hb
  isplitl [Ho Ht0 Ho0 Ht1 Ho1]
  · isplitl [Ho]; · iexact Ho
    isplitl [Ht0 Ho0]
    · isplitl [Ht0]; · iexact Ht0
      iexact Ho0
    isplitl [Ht1]; · iexact Ht1
    iexact Ho1
  isplitl [H0]; · iexact H0
  isplitl [H1]; · iexact H1
  isplitl [H2]; · iexact H2
  isplitl [H3]; · iexact H3
  isplitl [Hs0 Hi0]
  · isplitl [Hs0]; · iexact Hs0
    iexact Hi0
  isplitl [Hs1 Hi1]
  · isplitl [Hs1]; · iexact Hs1
    iexact Hi1
  isplitl [Hw]; · iexact Hw
  iexact Hbc

set_option backward.isDefEq.respectTransparency.types false in
/-- What the body ends at is what the launch takes back. -/
theorem leave (c : Dev nD) : (dats m 0 c).Φ (Fin.last cfg0.N)
    ⊢ iprop(outOfΦ m c ∗ Pipeline.ownSems0 osem c ∗ Pipeline.scopedRest (Val := Elt F) (cfgs 0).spec c) := by
  rw [scopedRest0_eq, show (dats m 0 c).Φ (Fin.last cfg0.N) = Φ m c true from rfl, ownSems0_eq]
  unfold Φ outOfΦ Ring.AtB₀ inFree
  rw [x_eq c, if_pos rfl, fin2_sep]
  unfold outFree
  iintro ⟨Hx, HW, Hb, ⟨Ho, ⟨Ht0, Ho0⟩, ⟨Ht1, Ho1⟩⟩, H0, H1, H2, H3, ⟨Hs0, Hi0⟩, ⟨Hs1, Hi1⟩, Hw, Hbc⟩
  ihave HW := (Entails.of_eq (whole_eq c main_arg1 _)) $$ HW
  ihave Hb := (Entails.of_eq (whole_eq c main_arg2 _)) $$ Hb
  ihave H0 := (whole_out c cc0_scratch0) $$ H0
  ihave H1 := (whole_out c cc0_scratch1) $$ H1
  ihave H2 := (whole_out c cc0_scratch2) $$ H2
  ihave H3 := (whole_out c cc0_scratch3) $$ H3
  ihave Ho := (o_join c _ _ _ (m ((c : Thread nD τ).loc main_v0))) $$ Ho
  isplitl [Hx HW Hb Ho]
  · isplitl [Hx]; · iexact Hx
    isplitl [HW]; · iexact HW
    isplitl [Hb]; · iexact Hb
    unfold OutOK
    iexact Ho
  isplitl [Hw Hbc Hi0 Hi1 Ho0 Ho1]
  · isplitl [Hw]; · iexact Hw
    isplitl [Hbc]; · iexact Hbc
    isplitl [Hi0]; · iexact Hi0
    isplitl [Hi1]; · iexact Hi1
    isplitl [Ho0]; · iexact Ho0
    iexact Ho1
  isplitl [H0]; · iexact H0
  isplitl [H1]; · iexact H1
  isplitl [H2]; · iexact H2
  isplitl [H3]; · iexact H3
  isplitl [Hs0 Hs1]
  · iapply (is_join c)
    isplitl [Hs0]; · iexact Hs0
    iexact Hs1
  iapply (os_join c)
  isplitl [Ht0]; · iexact Ht0
  iexact Ht1

set_option backward.isDefEq.respectTransparency.types false in
/-- For any float values, from any memory with zero counters: every weakly fair execution of @main terminates without fault,
    and every final state has the result's blocks at what the kernel computes for them, the arguments unchanged, and every
    semaphore counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := intoΦ m) (Y := outOfΦ m) (Z := fun _ => iprop(emp))
    (hX := fun c => by
      rw [unscopedRest0_eq]
      unfold intoΦ
      iintro ⟨⟨H0, H1, H2, H3⟩, HS, -, -, -⟩; imodintro
      isplitl [H0 H1 H2 H3 HS]
      · isplitl [H0]; · iexact H0
        isplitl [H1]; · iexact H1
        isplitl [H2]; · iexact H2
        isplitl [H3]; · iexact H3
        iexact HS
      iempintro)
    (hin := enter m)
    (hout := leave m)
    (QY := QY m)
    (hY := fun c s' => by
      unfold outOfΦ
      iintro ⟨⟨H0, H1, H2, ⟨%g, %hg, H3⟩⟩, -, HSI⟩
      icombine HSI H0 gives %h0
      icombine HSI H1 gives %h1
      icombine HSI H2 gives %h2
      icombine HSI H3 gives %h3
      imodintro
      isplitr
      · ipureintro
        refine ⟨⟨Buf.eq_of_forall_mem_univ h0, Buf.eq_of_forall_mem_univ h1, Buf.eq_of_forall_mem_univ h2⟩, ?_⟩
        rw [Buf.eq_of_forall_mem_univ h3]
        exact hg
      iexact HSI)
    (hQ := fun _ hh hz => ⟨fun c => (hh c).2, hz⟩)

end Launch

end Cert.Pipe
-- ==== Proof.Alg.lean ====
/-
  The arithmetic: averaging the weights and the bias first gives what averaging the four affine maps gives, over the
  extended reals with finite inputs and weights. No program is named here.
-/
module

public import Idealize.ShloMosaic.PureOps.Ideal.Laws
public import Idealize.ShloMosaic.Lib.ReduceAll
public import Idealize.ShloMosaic.Lib.IdealHost

@[expose] public section

noncomputable section

namespace Cert.Pipe

open Idealize.ShloMosaic

/-- The f32 word of a quarter. -/
theorem quarter : Ideal.ofBits .f32 0x3E800000#32 = (((1 : ℝ) / 4 : ℝ) : EReal) := by
  simp [Ideal.ofBits, Ideal.ieee, -EReal.coe_mul]; norm_num
/-- The f32 word of four. -/
theorem four : Ideal.ofBits .f32 0x40800000#32 = ((4 : ℝ) : EReal) := by
  simp [Ideal.ofBits, Ideal.ieee, -EReal.coe_mul]; norm_num

/-- A real and any extended real, quartered, is the quarters' sum. -/
theorem quarter_add (s : ℝ) (B : EReal) :
    ((s : EReal) + B) * (((1 : ℝ) / 4 : ℝ) : EReal) = (s : EReal) * (((1 : ℝ) / 4 : ℝ) : EReal) + B * (((1 : ℝ) / 4 : ℝ) : EReal) := by
  have h : (0 : ℝ) < 1 / 4 := by norm_num
  induction B with
  | bot => rw [EReal.add_bot, EReal.bot_mul_coe_of_pos h, EReal.add_bot]
  | top =>
    rw [EReal.coe_add_top, EReal.top_mul_coe_of_pos h, ← EReal.coe_mul, EReal.coe_add_top]
  | coe r =>
    norm_cast
    ring

/-- The sum of reals in the extended reals is the reals' sum. -/
theorem coe_sum' {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- Finite inputs through the averaged weights plus the averaged bias: the four affine maps' average. -/
theorem avg_eq {n : ℕ} (x : Fin n → EReal) (w : Fin 4 → Fin n → EReal) (b : Fin 4 → EReal)
    (hx : ∀ k, ∃ r : ℝ, x k = r) (hw : ∀ r k, ∃ s : ℝ, w r k = s) :
    (∑ k, x k * ((((w 0 k + w 1 k) + w 2 k) + w 3 k) * (((1 : ℝ) / 4 : ℝ) : EReal)))
        + (((b 0 + b 1) + b 2) + b 3) * (((1 : ℝ) / 4 : ℝ) : EReal)
      = Ideal.div (0 + ∑ r, ((∑ k, w r k * x k) + b r)) ((4 : ℝ) : EReal) := by
  choose x' hx' using hx
  choose w' hw' using hw
  have el : ∑ k, x k * ((((w 0 k + w 1 k) + w 2 k) + w 3 k) * (((1 : ℝ) / 4 : ℝ) : EReal))
      = (((∑ r, ∑ k, w' r k * x' k) * (1 / 4) : ℝ) : EReal) := by
    rw [show (∑ r, ∑ k, w' r k * x' k) * (1 / 4 : ℝ) = ∑ k, x' k * ((((w' 0 k + w' 1 k) + w' 2 k) + w' 3 k) * (1 / 4)) from by
      rw [Finset.sum_comm, Finset.sum_mul]
      refine Finset.sum_congr rfl fun k _ => ?_
      rw [Fin.sum_univ_four]
      ring]
    rw [← coe_sum']
    refine Finset.sum_congr rfl fun k _ => ?_
    rw [hx', hw', hw', hw', hw']
    push_cast
    rfl
  have er : ∀ r, ∑ k, w r k * x k = ((∑ k, w' r k * x' k : ℝ) : EReal) := fun r => by
    rw [← coe_sum']
    refine Finset.sum_congr rfl fun k _ => ?_
    rw [hx', hw', EReal.coe_mul]
  rw [Ideal.div_coe (by norm_num : (4 : ℝ) ≠ 0), el, zero_add, Finset.sum_add_distrib, Fin.sum_univ_four (f := b)]
  rw [show ∑ r, ∑ k, w r k * x k = ((∑ r, ∑ k, w' r k * x' k : ℝ) : EReal) from by
    rw [← coe_sum']
    exact Finset.sum_congr rfl fun r _ => er r]
  rw [quarter_add, EReal.coe_mul]

/-- A value below +∞ in magnitude is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x with
  | bot => simp [Ideal.cmp] at h
  | top => simp [Ideal.cmp] at h
  | coe r => exact ⟨r, rfl⟩

end Cert.Pipe
-- ==== Proof.Value.lean ====
/-
  The kernel's result is the reference's, over the extended reals, from finite inputs and weights.
-/
module

public import proofs.«01_k».proof.Proof.Run
public import proofs.«01_k».proof.Proof.Alg
public import proofs.«01_k».proof.Proof.Gen.ReferenceIdeal.Read
public import proofs.«01_k».proof.Proof.Gen.Pre_finite
public import Idealize.ShloMosaic.Lib.MatmulPlain
public import Idealize.ShloMosaic.Lib.ValueLayout

@[expose] public section

noncomputable section

namespace Cert.Pipe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Value
variable (c : Dev nD) (X : FVec Ideal S32768x4096 .f32) (Wf : FVec Ideal S4x4096x64 .f32) (bf : FVec Ideal S4x64 .f32)

/-- Slab `r` of the weights, as a matrix, read at an index. -/
theorem slab_apply (r : Fin 4) (h : ∀ a, (![r.val, 0, 0] : Fin 3 → Nat) a + S1x4096x64.size a ≤ S4x4096x64.size a) (k : Fin 4096) (j : Fin 64) :
    shapeCast S4096x64 (wSlab (F := Ideal) c Wf r.val h) shapeCasts_S1x4096x64_S4096x64 (ix2 k j) = Wf (ix3 r k j) := by
  refine (shapeCast_1ab_ab_apply _ _ k j).trans (congrArg Wf (funext fun a => Fin.ext ?_))
  match a with
  | ⟨0, _⟩ => show r.val + 1 * 0 = r.val; omega
  | ⟨1, _⟩ => show 0 + 1 * k.val = k.val; omega
  | ⟨2, _⟩ => show 0 + 1 * j.val = j.val; omega

/-- Row `r` of the bias, as a vector, read at an index. -/
theorem brow_apply (r : Fin 4) (h : ∀ a, (![r.val, 0] : Fin 2 → Nat) a + S1x64.size a ≤ S4x64.size a) (i : S64.Idx) (j : Fin 64) (hj : (i 0).val = j.val) :
    shapeCast S64 (bRow (F := Ideal) c bf r.val h) shapeCasts_S1x64_S64 i = bf (ix2 r j) := by
  refine (shapeCast_dropUnit_apply ![64] _ _ i).trans (congrArg bf (funext fun a => Fin.ext ?_))
  match a with
  | ⟨0, _⟩ => show r.val + 1 * 0 = r.val; omega
  | ⟨1, _⟩ => show 0 + 1 * (i 0).val = j.val; omega

/-- The averaged weights at an index. -/
theorem wAvg_apply (k : Fin 4096) (j : Fin 64) :
    wAvg (F := Ideal) c Wf (ix2 k j)
      = ((((Wf (ix3 0 k j) : EReal) + Wf (ix3 1 k j)) + Wf (ix3 2 k j)) + Wf (ix3 3 k j)) * (((1 : ℝ) / 4 : ℝ) : EReal) := by
  rw [← quarter]
  have e0 := slab_apply c Wf 0 inb_S4x4096x64_S1x4096x64_0_0_0 k j
  have e1 := slab_apply c Wf 1 inb_S4x4096x64_S1x4096x64_1_0_0 k j
  have e2 := slab_apply c Wf 2 inb_S4x4096x64_S1x4096x64_2_0_0 k j
  have e3 := slab_apply c Wf 3 inb_S4x4096x64_S1x4096x64_3_0_0 k j
  rw [← e0, ← e1, ← e2, ← e3]
  rfl

/-- The averaged bias at an index. -/
theorem bAvg_apply (j : Fin 64) :
    bAvg (F := Ideal) c bf (ix2 0 j)
      = ((((bf (ix2 0 j) : EReal) + bf (ix2 1 j)) + bf (ix2 2 j)) + bf (ix2 3 j)) * (((1 : ℝ) / 4 : ℝ) : EReal) := by
  rw [← quarter]
  unfold bAvg
  refine (shapeCast_addUnit_apply ![64] _ _ (ix2 0 j)).trans ?_
  have e0 := brow_apply c bf 0 inb_S4x64_S1x64_0_0 (fun a => (ix2 (0 : Fin 1) j) a.succ) j rfl
  have e1 := brow_apply c bf 1 inb_S4x64_S1x64_1_0 (fun a => (ix2 (0 : Fin 1) j) a.succ) j rfl
  have e2 := brow_apply c bf 2 inb_S4x64_S1x64_2_0 (fun a => (ix2 (0 : Fin 1) j) a.succ) j rfl
  have e3 := brow_apply c bf 3 inb_S4x64_S1x64_3_0 (fun a => (ix2 (0 : Fin 1) j) a.succ) j rfl
  rw [← e0, ← e1, ← e2, ← e3]
  rfl

/-- Row `p` of block `b`, as a row of the whole. -/
abbrev row (b : Fin 32) (p : Fin 1024) : Fin 32768 := ⟨1024 * b.val + p.val, by omega⟩

theorem xblk_read (b : Fin 32) (p : Fin 1024) (k : Fin 4096) :
    (xblk b).view.read (Elt Ideal) X (ix2 p k) = X (ix2 (row b p) k) := by
  refine congrArg X (funext fun a => Fin.ext ?_)
  match a with
  | ⟨0, _⟩ => show 1024 * b.val + 1 * p.val = 1024 * b.val + p.val; omega
  | ⟨1, _⟩ => show 0 + 1 * k.val = k.val; omega
theorem oblk_read (g : FVec Ideal S32768x64 .f32) (b : Fin 32) (p : Fin 1024) (j : Fin 64) :
    (oblk b).view.read (Elt Ideal) g (ix2 p j) = g (ix2 (row b p) j) := by
  refine congrArg g (funext fun a => Fin.ext ?_)
  match a with
  | ⟨0, _⟩ => show 1024 * b.val + 1 * p.val = 1024 * b.val + p.val; omega
  | ⟨1, _⟩ => show 0 + 1 * j.val = j.val; omega

/-- A block of the result at an index. -/
theorem outVal_apply (b : Fin 32) (p : Fin 1024) (j : Fin 64) :
    outVal (F := Ideal) c X Wf bf b (ix2 p j)
      = (∑ k : Fin 4096, (X (ix2 (row b p) k) : EReal)
            * (((((Wf (ix3 0 k j) : EReal) + Wf (ix3 1 k j)) + Wf (ix3 2 k j)) + Wf (ix3 3 k j)) * (((1 : ℝ) / 4 : ℝ) : EReal)))
        + ((((bf (ix2 0 j) : EReal) + bf (ix2 1 j)) + bf (ix2 2 j)) + bf (ix2 3 j)) * (((1 : ℝ) / 4 : ℝ) : EReal) := by
  unfold outVal
  have hm : matmul (F := Ideal) (φ₁ := .f32) (φ₂ := .f32) dot_S1024x4096_S4096x64_S1024x64_1_0_0_1_n_n none ((xblk b).view.read (Elt Ideal) X) (wAvg c Wf)
      (constant (F := Ideal) S1024x64 .f32 0x00000000#32) (ix2 p j)
      = ∑ k : Fin 4096, ((xblk b).view.read (Elt Ideal) X (ix2 p k) : EReal) * (wAvg (F := Ideal) c Wf (ix2 k j) : EReal) := by
    refine (Ideal.matmul_plain_apply none ((xblk b).view.read (Elt Ideal) X) (wAvg c Wf)
      (constant (F := Ideal) S1024x64 .f32 0x00000000#32) p j).trans ?_
    show Ideal.ofBits .f32 0x00000000#32 + _ = _
    rw [Ideal.ofBits_zero_f32, zero_add]
  have hb := broadcastTo_1b_ab_apply (bAvg (F := Ideal) c bf) broadcasts_S1x64_S1024x64 p j
  rw [bAvg_apply] at hb
  refine (congrArg₂ (fun a b : EReal => a + b) hm hb).trans ?_
  refine congrArg (fun a : EReal => a + _) (Finset.sum_congr rfl fun k _ => ?_)
  rw [xblk_read, wAvg_apply]

/-- The reference's result at an index. -/
theorem ref_apply (i : Fin 32768) (j : Fin 64) :
    Cert.ReferenceIdeal.Read.val_main_v7 (F := Ideal) X Wf bf (ix2 i j)
      = Ideal.div (0 + ∑ r : Fin 4, ((∑ k : Fin 4096, (Wf (ix3 r k j) : EReal) * X (ix2 i k)) + bf (ix2 r j))) ((4 : ℝ) : EReal) := by
  rw [Cert.ReferenceIdeal.Read.val_main_v7_apply, Cert.ReferenceIdeal.Read.val_main_v5_apply, Cert.ReferenceIdeal.Read.val_main_v6_apply,
    Cert.ReferenceIdeal.Read.val_main_cst_0_apply, Cert.ReferenceIdeal.Read.val_main_cst_apply]
  show Ideal.div (Ideal.ofBits .f32 0x00000000#32 + _) (Ideal.ofBits .f32 0x40800000#32) = _
  rw [four, Ideal.ofBits_zero_f32]
  refine congrArg (fun s : EReal => Ideal.div (0 + s) _) (Finset.sum_congr rfl fun r _ => ?_)
  rw [Cert.ReferenceIdeal.Read.val_main_v4_apply, Cert.ReferenceIdeal.Read.val_main_v1_apply, Cert.ReferenceIdeal.Read.val_main_v0_apply,
    Cert.ReferenceIdeal.Read.val_main_v3_apply, Cert.ReferenceIdeal.Read.val_main_v2_apply]
  refine congrArg₂ (fun a b : EReal => a + b) (Finset.sum_congr rfl fun k _ => congrArg₂ (fun a b : EReal => a * b) ?_ ?_) ?_
  · exact congrArg Wf (funext fun a => Fin.ext (by match a with | ⟨0, _⟩ => rfl | ⟨1, _⟩ => rfl | ⟨2, _⟩ => rfl))
  · exact congrArg X (funext fun a => Fin.ext (by match a with | ⟨0, _⟩ => rfl | ⟨1, _⟩ => rfl))
  · exact congrArg bf (funext fun a => Fin.ext (by match a with | ⟨0, _⟩ => rfl | ⟨1, _⟩ => rfl))

/-- What the precondition says: every input and every weight is a real. -/
theorem finite_of_pre (h : Cert.Pre_finite.fn (F := Ideal) X Wf bf = fun _ => 1#1) :
    (∀ i, ∃ r : ℝ, X i = (r : EReal)) ∧ ∀ i, ∃ r : ℝ, Wf i = (r : EReal) := by
  have h0 := congrFun h (fun a => a.elim0)
  dsimp only [Cert.Pre_finite.fn] at h0
  have hs := (show ∀ a b : BitVec 1, IntOp.andi a b = 1#1 → a = 1#1 ∧ b = 1#1 from by decide) _ _ h0
  haveI : Subsingleton Cert.Pre_finite.S_.Idx := ⟨fun _ _ => funext fun a => a.elim0⟩
  exact ⟨fun i => real_of_abs_lt _ (Host.reduce_andi_all _ _ _ _ _ hs.1 i), fun i => real_of_abs_lt _ (Host.reduce_andi_all _ _ _ _ _ hs.2 i)⟩

/-- A result whose every block is the kernel's is the reference's, from finite inputs and weights. -/
theorem result_eq (hx : ∀ i, ∃ r : ℝ, X i = (r : EReal)) (hW : ∀ i, ∃ r : ℝ, Wf i = (r : EReal)) (g : FVec Ideal S32768x64 .f32)
    (hg : ∀ b : Fin 32, (oblk b).view.read (Elt Ideal) g = outVal (F := Ideal) c X Wf bf b) :
    g = Cert.ReferenceIdeal.Read.val_main_v7 (F := Ideal) X Wf bf := by
  funext i
  obtain ⟨i0, j, rfl⟩ : ∃ (i0 : Fin 32768) (j : Fin 64), i = ix2 i0 j := ⟨i 0, i 1, eq_ix2 i⟩
  have hb : i0.val / 1024 < 32 := by omega
  have hp : i0.val % 1024 < 1024 := Nat.mod_lt _ (by decide)
  have hr : row ⟨i0.val / 1024, hb⟩ ⟨i0.val % 1024, hp⟩ = i0 := Fin.ext (Nat.div_add_mod i0.val 1024)
  have h := congrFun (hg ⟨i0.val / 1024, hb⟩) (ix2 ⟨i0.val % 1024, hp⟩ j)
  rw [oblk_read, outVal_apply, hr] at h
  rw [h, ref_apply]
  exact avg_eq (fun k => X (ix2 i0 k)) (fun r k => Wf (ix3 r k j)) (fun r => bf (ix2 r j)) (fun k => hx _) (fun r k => hW _)

end Value

end Cert.Pipe
-- ==== Proof.lean ====
/-
  The claims, from the kernel's run, the reference's run and the two results' equality.
-/
module

public import proofs.«01_k».proof.Defs
public import proofs.«01_k».proof.Proof.Value
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- The printed kernel terminates, its arguments unchanged and its semaphores at zero: the run at bit patterns. -/
theorem frame_kernel : Cert.quiescent_Kernel := fun m ρ _ =>
  (θ_run Cert.KernelIdeal.defs _ _).mono (fun _ h => ⟨fun c => (h.1 c).1, h.2⟩) (Cert.Pipe.run_main (F := Bits) m ρ)

/-- The idealized kernel terminates, its arguments unchanged and its semaphores at zero: the run at the extended reals. -/
theorem frame_ideal : Cert.quiescent_KernelIdeal := fun m ρ _ =>
  (θ_run Cert.KernelIdeal.defs _ _).mono (fun _ h => ⟨fun c => (h.1 c).1, h.2⟩) (Cert.Pipe.run_main (F := Ideal) m ρ)

/-- The reference, a straight-line host program that declares no semaphore, terminates with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite inputs and weights the kernel's result is the reference's. -/
theorem algebraic : Cert.algebraic_KernelIdeal_ReferenceIdeal_pre_finite := fun m ρ m' ρ' hpre hagree =>
  ⟨fun c => Cert.ReferenceIdeal.Read.val_main_v7 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => by
      have hf := Cert.Pipe.finite_of_pre _ _ _ (hpre c)
      exact ⟨Cert.Pipe.result_eq c _ _ _ hf.1 hf.2 _ (h.1 c).2, (h.1 c).1⟩) (Cert.Pipe.run_main (F := Ideal) m ρ),
    (θ_run Cert.ReferenceIdeal.defs _ _).mono (fun _ h c => by
      refine ⟨(h c).1.trans ?_, (h c).2⟩
      rw [(hagree c).1, (hagree c).2.1, (hagree c).2.2]
      exact Cert.ReferenceIdeal.Read.val_main_v7_eq (F := Ideal) _ _ _) (Cert.ReferenceIdeal.Value.run (F := Ideal) m' ρ')⟩

/-- Every claim of this directory. -/
theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial, trivial, algebraic⟩

end Cert.Proof
